-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 2048]⟩ ⟨2, ![4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S4096x2048 : Shape := ⟨2, ![4096, 2048]⟩
abbrev S1 : Shape := ⟨1, ![1]⟩
abbrev S1024x2048 : Shape := ⟨2, ![1024, 2048]⟩
abbrev S2x1024x1024 : Shape := ⟨3, ![2, 1024, 1024]⟩
abbrev S3x1024x1024 : Shape := ⟨3, ![3, 1024, 1024]⟩
abbrev S4x1024x1024 : Shape := ⟨3, ![4, 1024, 1024]⟩
abbrev S2x1024x2048 : Shape := ⟨3, ![2, 1024, 2048]⟩
abbrev S4x1024x2048 : Shape := ⟨3, ![4, 1024, 2048]⟩
abbrev S2 : Shape := ⟨1, ![2]⟩
abbrev S4 : Shape := ⟨1, ![4]⟩
abbrev S12 : Shape := ⟨1, ![12]⟩
abbrev S_ : Shape := ⟨0, ![]⟩
abbrev S1x1024x1024 : Shape := ⟨3, ![1, 1024, 1024]⟩
abbrev S1024x1024 : Shape := ⟨2, ![1024, 1024]⟩
abbrev S1x256x1024 : Shape := ⟨3, ![1, 256, 1024]⟩
abbrev S256x1024 : Shape := ⟨2, ![256, 1024]⟩
abbrev S1x1024x2048 : Shape := ⟨3, ![1, 1024, 2048]⟩
abbrev S256x2048 : Shape := ⟨2, ![256, 2048]⟩

abbrev nBuf : Space → Nat
  | .hbm => 5
  | .vmem => 6
  | .smem => 2
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S1024x2048, .f32⟩
  | .local _ .vmem, ⟨0, _⟩ => ⟨S2x1024x1024, .f32⟩
  | .local _ .vmem, ⟨1, _⟩ => ⟨S3x1024x1024, .fp8e4m3⟩
  | .local _ .vmem, ⟨2, _⟩ => ⟨S4x1024x1024, .fp8e4m3⟩
  | .local _ .vmem, ⟨3, _⟩ => ⟨S2x1024x2048, .f32⟩
  | .local _ .vmem, ⟨4, _⟩ => ⟨S4x1024x2048, .fp8e4m3⟩
  | .local _ .vmem, ⟨5, _⟩ => ⟨S1024x2048, .f32⟩
  | .local _ .smem, ⟨0, _⟩ => ⟨S1, .f32⟩
  | .local _ .smem, ⟨1, _⟩ => ⟨S1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_off1 (d0 : Dev nD) (c1_i32_0 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let c1024_i32 : BitVec 32 := 1024#32
  let v5 : BitVec 32 := Scalar.muli v4 c1024_i32
  let c0_i32_5 : BitVec 32 := 0#32
  ![v5.toNat, 0]
def k0_dev1 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v20 : BitVec 32 := Scalar.addi v2 c1_i32_13
  let c4_i32_14 : BitVec 32 := 4#32
  let v21 : BitVec 32 := Scalar.remsi v20 c4_i32_14
  let c1_i32_16 : BitVec 32 := 1#32
  let v22 : BitVec 32 := Scalar.muli v21 c1_i32_16
  let v23 : BitVec 32 := Scalar.addi c0_i32_17 v22
  v23.toNat
def k0_dev2 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v24 : BitVec 32 := Scalar.addi v2 c2_i32
  let c4_i32_18 : BitVec 32 := 4#32
  let v25 : BitVec 32 := Scalar.remsi v24 c4_i32_18
  let c1_i32_20 : BitVec 32 := 1#32
  let v26 : BitVec 32 := Scalar.muli v25 c1_i32_20
  let v27 : BitVec 32 := Scalar.addi c0_i32_21 v26
  v27.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_22 : BitVec 32 := 3#32
  let v28 : BitVec 32 := Scalar.addi v2 c3_i32_22
  let c4_i32_23 : BitVec 32 := 4#32
  let v29 : BitVec 32 := Scalar.remsi v28 c4_i32_23
  let c1_i32_25 : BitVec 32 := 1#32
  let v30 : BitVec 32 := Scalar.muli v29 c1_i32_25
  let v31 : BitVec 32 := Scalar.addi c0_i32_26 v30
  v31.toNat
def k0_dev4 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_38 : BitVec 32 := 1#32
  let v43 : BitVec 32 := Scalar.addi v2 c1_i32_38
  let c4_i32_39 : BitVec 32 := 4#32
  let v44 : BitVec 32 := Scalar.remsi v43 c4_i32_39
  let c1_i32_44 : BitVec 32 := 1#32
  let v45 : BitVec 32 := Scalar.muli v44 c1_i32_44
  let v46 : BitVec 32 := Scalar.addi c0_i32_45 v45
  v46.toNat
def k0_dev5 (d0 : Dev nD) : Nat :=
  let c0_i32_57 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_50 : BitVec 32 := 1#32
  let v55 : BitVec 32 := Scalar.addi v2 c1_i32_50
  let c4_i32_51 : BitVec 32 := 4#32
  let v56 : BitVec 32 := Scalar.remsi v55 c4_i32_51
  let c1_i32_56 : BitVec 32 := 1#32
  let v57 : BitVec 32 := Scalar.muli v56 c1_i32_56
  let v58 : BitVec 32 := Scalar.addi c0_i32_57 v57
  v58.toNat
def k0_dev6 (d0 : Dev nD) : Nat :=
  let c0_i32_68 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_61 : BitVec 32 := 1#32
  let v67 : BitVec 32 := Scalar.addi v2 c1_i32_61
  let c4_i32_62 : BitVec 32 := 4#32
  let v68 : BitVec 32 := Scalar.remsi v67 c4_i32_62
  let c1_i32_67 : BitVec 32 := 1#32
  let v69 : BitVec 32 := Scalar.muli v68 c1_i32_67
  let v70 : BitVec 32 := Scalar.addi c0_i32_68 v69
  v70.toNat
def k0_dev7 (d0 : Dev nD) : Nat :=
  let c0_i32_79 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_72 : BitVec 32 := 1#32
  let v79 : BitVec 32 := Scalar.addi v2 c1_i32_72
  let c4_i32_73 : BitVec 32 := 4#32
  let v80 : BitVec 32 := Scalar.remsi v79 c4_i32_73
  let c1_i32_78 : BitVec 32 := 1#32
  let v81 : BitVec 32 := Scalar.muli v80 c1_i32_78
  let v82 : BitVec 32 := Scalar.addi c0_i32_79 v81
  v82.toNat
def k0_dev8 (d0 : Dev nD) : Nat :=
  let c0_i32_108 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_101 : BitVec 32 := 3#32
  let v110 : BitVec 32 := Scalar.addi v2 c3_i32_101
  let c4_i32_102 : BitVec 32 := 4#32
  let v111 : BitVec 32 := Scalar.remsi v110 c4_i32_102
  let c1_i32_107 : BitVec 32 := 1#32
  let v112 : BitVec 32 := Scalar.muli v111 c1_i32_107
  let v113 : BitVec 32 := Scalar.addi c0_i32_108 v112
  v113.toNat
def k0_dev9 (d0 : Dev nD) : Nat :=
  let c0_i32_119 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_113 : BitVec 32 := 3#32
  let v122 : BitVec 32 := Scalar.addi v2 c3_i32_113
  let c4_i32_114 : BitVec 32 := 4#32
  let v123 : BitVec 32 := Scalar.remsi v122 c4_i32_114
  let c1_i32_118 : BitVec 32 := 1#32
  let v124 : BitVec 32 := Scalar.muli v123 c1_i32_118
  let v125 : BitVec 32 := Scalar.addi c0_i32_119 v124
  v125.toNat
def k0_dev10 (d0 : Dev nD) : Nat :=
  let c0_i32_130 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_124 : BitVec 32 := 3#32
  let v134 : BitVec 32 := Scalar.addi v2 c3_i32_124
  let c4_i32_125 : BitVec 32 := 4#32
  let v135 : BitVec 32 := Scalar.remsi v134 c4_i32_125
  let c1_i32_129 : BitVec 32 := 1#32
  let v136 : BitVec 32 := Scalar.muli v135 c1_i32_129
  let v137 : BitVec 32 := Scalar.addi c0_i32_130 v136
  v137.toNat
def k0_dev11 (d0 : Dev nD) : Nat :=
  let c0_i32_141 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_135 : BitVec 32 := 3#32
  let v146 : BitVec 32 := Scalar.addi v2 c3_i32_135
  let c4_i32_136 : BitVec 32 := 4#32
  let v147 : BitVec 32 := Scalar.remsi v146 c4_i32_136
  let c1_i32_140 : BitVec 32 := 1#32
  let v148 : BitVec 32 := Scalar.muli v147 c1_i32_140
  let v149 : BitVec 32 := Scalar.addi c0_i32_141 v148
  v149.toNat
def k0_dev12 (d0 : Dev nD) : Nat :=
  let c0_i32_170 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_164 : BitVec 32 := 2#32
  let v177 : BitVec 32 := Scalar.addi v2 c2_i32_164
  let c4_i32_165 : BitVec 32 := 4#32
  let v178 : BitVec 32 := Scalar.remsi v177 c4_i32_165
  let c1_i32_169 : BitVec 32 := 1#32
  let v179 : BitVec 32 := Scalar.muli v178 c1_i32_169
  let v180 : BitVec 32 := Scalar.addi c0_i32_170 v179
  v180.toNat
def k0_dev13 (d0 : Dev nD) : Nat :=
  let c0_i32_181 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_175 : BitVec 32 := 2#32
  let v189 : BitVec 32 := Scalar.addi v2 c2_i32_175
  let c4_i32_176 : BitVec 32 := 4#32
  let v190 : BitVec 32 := Scalar.remsi v189 c4_i32_176
  let c1_i32_180 : BitVec 32 := 1#32
  let v191 : BitVec 32 := Scalar.muli v190 c1_i32_180
  let v192 : BitVec 32 := Scalar.addi c0_i32_181 v191
  v192.toNat
def k0_dev14 (d0 : Dev nD) : Nat :=
  let c0_i32_192 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_186 : BitVec 32 := 2#32
  let v201 : BitVec 32 := Scalar.addi v2 c2_i32_186
  let c4_i32_187 : BitVec 32 := 4#32
  let v202 : BitVec 32 := Scalar.remsi v201 c4_i32_187
  let c1_i32_191 : BitVec 32 := 1#32
  let v203 : BitVec 32 := Scalar.muli v202 c1_i32_191
  let v204 : BitVec 32 := Scalar.addi c0_i32_192 v203
  v204.toNat
def k0_dev15 (d0 : Dev nD) : Nat :=
  let c0_i32_203 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_197 : BitVec 32 := 2#32
  let v213 : BitVec 32 := Scalar.addi v2 c2_i32_197
  let c4_i32_198 : BitVec 32 := 4#32
  let v214 : BitVec 32 := Scalar.remsi v213 c4_i32_198
  let c1_i32_202 : BitVec 32 := 1#32
  let v215 : BitVec 32 := Scalar.muli v214 c1_i32_202
  let v216 : BitVec 32 := Scalar.addi c0_i32_203 v215
  v216.toNat
def k0_off2 (d0 : Dev nD) (c0_i32_208 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v225 : BitVec 32 := Scalar.subi v2 c0_i32_208
  let c4_i32_209 : BitVec 32 := 4#32
  let v226 : BitVec 32 := Scalar.addi v225 c4_i32_209
  let c4_i32_210 : BitVec 32 := 4#32
  let v227 : BitVec 32 := Scalar.remsi v226 c4_i32_210
  let c1024_i32_211 : BitVec 32 := 1024#32
  let v228 : BitVec 32 := Scalar.muli v227 c1024_i32_211
  let c0_i32_216 : BitVec 32 := 0#32
  ![v228.toNat, 0]
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Contents.lean ====
/-
# What the buffers hold: blocks, slots and row chunks as plain functions

Every buffer of the kernel is cut along its leading axes: a three-axis scratch buffer into slots (and a slot into
four row chunks of 256), a two-axis buffer into row blocks. This file names those pieces as sets of indices, says
which rectangles cover them, and names what each piece holds as a function of the launch memory.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueLayout

@[expose] public section

noncomputable section

namespace Cert.KProof

open Cert.KernelIdeal Cert.KernelIdeal.Gen
open Idealize.ShloMosaic Idealize.ShloMosaic.TcCoe Idealize.ShloMosaic.ValueIdx

variable {F : FTy → Type} [FloatOps F]

/-! ## Pieces of a buffer as sets of indices -/

/-- Slot `i` of an `n × a × b` buffer. -/
def slotS (n a b i : ℕ) : Finset (⟨3, ![n, a, b]⟩ : Shape).Idx := Finset.univ.filter fun x => (x 0).val = i
/-- Rows `256 j … 256 j + 255` of slot `i`. -/
def chunkS (n a b i j : ℕ) : Finset (⟨3, ![n, a, b]⟩ : Shape).Idx :=
  Finset.univ.filter fun x => (x 0).val = i ∧ (x 1).val / 256 = j
/-- Rows `h j … h j + h - 1` of an `a × b` buffer. -/
def rowS (a b h j : ℕ) : Finset (⟨2, ![a, b]⟩ : Shape).Idx := Finset.univ.filter fun x => (x 0).val / h = j

theorem slot_set {n a b : ℕ} (i : ℕ) {off : Fin 3 → ℕ} (h : off = ![i, 0, 0])
    {inb : ∀ k, off k + (![1, a, b] : Fin 3 → ℕ) k ≤ (![n, a, b] : Fin 3 → ℕ) k} :
    (Rect.unit (s := ⟨3, ![n, a, b]⟩) off ![1, a, b] inb).set = slotS n a b i := by
  subst h
  ext x
  rw [Rect.mem_set_unit, slotS, Finset.mem_filter, Fin.forall_fin_succ, Fin.forall_fin_two]
  have h1 : (x 1).val < a := (x 1).isLt
  have h2 : (x 2).val < b := (x 2).isLt
  show ((i ≤ (x 0).val ∧ (x 0).val < i + 1) ∧ (0 ≤ (x 1).val ∧ (x 1).val < 0 + a) ∧ (0 ≤ (x 2).val ∧ (x 2).val < 0 + b)) ↔ _
  simp only [Finset.mem_univ, true_and]
  omega

theorem chunk_set {n a b : ℕ} (i j : ℕ) {off : Fin 3 → ℕ} (h : off = ![i, 256 * j, 0])
    {inb : ∀ k, off k + (![1, 256, b] : Fin 3 → ℕ) k ≤ (![n, a, b] : Fin 3 → ℕ) k} :
    (Rect.unit (s := ⟨3, ![n, a, b]⟩) off ![1, 256, b] inb).set = chunkS n a b i j := by
  subst h
  ext x
  rw [Rect.mem_set_unit, chunkS, Finset.mem_filter, Fin.forall_fin_succ, Fin.forall_fin_two]
  have h2 : (x 2).val < b := (x 2).isLt
  show ((i ≤ (x 0).val ∧ (x 0).val < i + 1) ∧ (256 * j ≤ (x 1).val ∧ (x 1).val < 256 * j + 256) ∧ (0 ≤ (x 2).val ∧ (x 2).val < 0 + b)) ↔ _
  simp only [Finset.mem_univ, true_and]
  omega

theorem row_set {a b : ℕ} (h j : ℕ) (hh : 0 < h) {off : Fin 2 → ℕ} (ho : off = ![h * j, 0])
    {inb : ∀ k, off k + (![h, b] : Fin 2 → ℕ) k ≤ (![a, b] : Fin 2 → ℕ) k} :
    (Rect.unit (s := ⟨2, ![a, b]⟩) off ![h, b] inb).set = rowS a b h j := by
  subst ho
  ext x
  rw [Rect.mem_set_unit, rowS, Finset.mem_filter, Fin.forall_fin_two]
  have h2 : (x 1).val < b := (x 1).isLt
  show ((h * j ≤ (x 0).val ∧ (x 0).val < h * j + h) ∧ (0 ≤ (x 1).val ∧ (x 1).val < 0 + b)) ↔ _
  simp only [Finset.mem_univ, true_and]
  have e : (x 0).val / h = j ↔ h * j ≤ (x 0).val ∧ (x 0).val < h * j + h := by
    rw [Nat.div_eq_iff hh, Nat.mul_comm]; omega
  rw [e]; omega

/-! ## Slots of a stacked buffer, chunks of a block -/

section Values
variable {α : Type} {n a b : ℕ}

/-- The buffer whose slot `i` is the block `V i`. -/
def stk (V : ℕ → (⟨2, ![a, b]⟩ : Shape).Idx → α) : (⟨3, ![n, a, b]⟩ : Shape).Idx → α := fun x => V (x 0).val (ix2 (x 1) (x 2))

/-- A block with a unit axis put before it. -/
def lift1 (M : (⟨2, ![a, b]⟩ : Shape).Idx → α) : (⟨3, ![1, a, b]⟩ : Shape).Idx → α := fun x => M (ix2 (x 1) (x 2))

/-- Rows `h j …` of a block (`j` below `a / h`). -/
def rowsOf (h j : ℕ) (hj : h * j + h ≤ a) (M : (⟨2, ![a, b]⟩ : Shape).Idx → α) : (⟨2, ![h, b]⟩ : Shape).Idx → α :=
  fun x => M (ix2 ⟨h * j + (x 0).val, by have : (x 0).val < h := (x 0).isLt; omega⟩ (x 1))

theorem cast_lift1 (M : (⟨2, ![a, b]⟩ : Shape).Idx → α) (h : (⟨3, ![1, a, b]⟩ : Shape).ShapeCasts ⟨2, ![a, b]⟩) :
    shapeCast ⟨2, ![a, b]⟩ (lift1 M) h = M := by
  funext x
  refine (congrArg _ (eq_ix2 x)).trans ((shapeCast_1ab_ab_apply (lift1 M) h (x 0) (x 1)).trans ?_)
  exact congrArg M (eq_ix2 x).symm

theorem lift1_cast (M : (⟨2, ![a, b]⟩ : Shape).Idx → α) (h : (⟨2, ![a, b]⟩ : Shape).ShapeCasts ⟨3, ![1, a, b]⟩) :
    shapeCast ⟨3, ![1, a, b]⟩ M h = lift1 M := by
  funext x
  exact (congrArg _ (eq_ix3 x)).trans (shapeCast_ab_1ab_apply M h (x 0) (x 1) (x 2))

theorem stk_slot (V : ℕ → (⟨2, ![a, b]⟩ : Shape).Idx → α) (i : ℕ) {off : Fin 3 → ℕ} (h : off = ![i, 0, 0])
    {inb : ∀ k, off k + (![1, a, b] : Fin 3 → ℕ) k ≤ (![n, a, b] : Fin 3 → ℕ) k} (x : (⟨3, ![1, a, b]⟩ : Shape).Idx) :
    (stk V : (⟨3, ![n, a, b]⟩ : Shape).Idx → α) ((Rect.unit (s := ⟨3, ![n, a, b]⟩) off ![1, a, b] inb).emb x) = lift1 (V i) x := by
  subst h
  unfold stk lift1
  have h0 : (x 0).val = 0 := by have : (x 0).val < 1 := (x 0).isLt; omega
  congr 1
  · show i + 1 * (x 0).val = i
    omega
  · congr 1 <;> apply Fin.ext
    · show 0 + 1 * (x 1).val = (x 1).val
      omega
    · show 0 + 1 * (x 2).val = (x 2).val
      omega

theorem stk_chunk (V : ℕ → (⟨2, ![a, b]⟩ : Shape).Idx → α) (i j : ℕ) (hj : 256 * j + 256 ≤ a) {off : Fin 3 → ℕ} (h : off = ![i, 256 * j, 0])
    {inb : ∀ k, off k + (![1, 256, b] : Fin 3 → ℕ) k ≤ (![n, a, b] : Fin 3 → ℕ) k} (x : (⟨3, ![1, 256, b]⟩ : Shape).Idx) :
    (stk V : (⟨3, ![n, a, b]⟩ : Shape).Idx → α) ((Rect.unit (s := ⟨3, ![n, a, b]⟩) off ![1, 256, b] inb).emb x) = lift1 (rowsOf 256 j hj (V i)) x := by
  subst h
  unfold stk lift1 rowsOf
  have h0 : (x 0).val = 0 := by have : (x 0).val < 1 := (x 0).isLt; omega
  congr 1
  · show i + 1 * (x 0).val = i
    omega
  · congr 1 <;> apply Fin.ext
    · show 256 * j + 1 * (x 1).val = 256 * j + (x 1).val
      omega
    · show 0 + 1 * (x 2).val = (x 2).val
      omega

theorem rows_at (M : (⟨2, ![a, b]⟩ : Shape).Idx → α) (h j : ℕ) (hj : h * j + h ≤ a) {off : Fin 2 → ℕ} (ho : off = ![h * j, 0])
    {inb : ∀ k, off k + (![h, b] : Fin 2 → ℕ) k ≤ (![a, b] : Fin 2 → ℕ) k} (x : (⟨2, ![h, b]⟩ : Shape).Idx) :
    M ((Rect.unit (s := ⟨2, ![a, b]⟩) off ![h, b] inb).emb x) = rowsOf h j hj M x := by
  subst ho
  unfold rowsOf
  congr 1
  funext k
  match k with
  | ⟨0, _⟩ => exact Fin.ext (show h * j + 1 * (x 0).val = h * j + (x 0).val by omega)
  | ⟨1, _⟩ => exact Fin.ext (show 0 + 1 * (x 1).val = (x 1).val by omega)

/-- The `1024 × b` block whose row chunk `j` is `W j`. -/
def glue (W : ℕ → (⟨2, ![256, b]⟩ : Shape).Idx → α) : (⟨2, ![1024, b]⟩ : Shape).Idx → α :=
  fun x => W ((x 0).val / 256) (ix2 ⟨(x 0).val % 256, Nat.mod_lt _ (by decide)⟩ (x 1))

theorem rows_glue (W : ℕ → (⟨2, ![256, b]⟩ : Shape).Idx → α) (j : ℕ) (hj : 256 * j + 256 ≤ 1024) : rowsOf 256 j hj (glue W) = W j := by
  funext x
  have hx : (x 0).val < 256 := (x 0).isLt
  unfold rowsOf glue
  have h1 : (256 * j + (x 0).val) / 256 = j := by omega
  have h2 : (256 * j + (x 0).val) % 256 = (x 0).val := by omega
  show W ((256 * j + (x 0).val) / 256) (ix2 ⟨(256 * j + (x 0).val) % 256, _⟩ (x 1)) = W j x
  rw [h1]
  congr 1
  rw [eq_ix2 x]
  congr 1
  exact Fin.ext h2

end Values

/-! ## Devices and the blocks they hold -/

/-- The distance the `o`-th batch of sends travels. -/
def ord : ℕ → ℕ | 0 => 1 | 1 => 3 | _ => 2

/-- The device `e` places after `c`. -/
def fwd (c : Dev nD) (e : ℕ) : Dev nD := ⟨(c.val + e) % 4, Nat.mod_lt _ (by decide)⟩
/-- The device `e` places before `c`. -/
def bwd (c : Dev nD) (e : ℕ) : Dev nD := ⟨(c.val + 4 - e % 4) % 4, Nat.mod_lt _ (by decide)⟩

theorem bwd_fwd (c : Dev nD) (e : ℕ) : bwd (fwd c e) e = c := by
  have hc : c.val < 4 := c.isLt
  apply Fin.ext; show ((c.val + e) % 4 + 4 - e % 4) % 4 = c.val; omega
theorem fwd_bwd (c : Dev nD) (e : ℕ) : fwd (bwd c e) e = c := by
  have hc : c.val < 4 := c.isLt
  apply Fin.ext; show ((c.val + 4 - e % 4) % 4 + e) % 4 = c.val; omega

/-- `e` places forward, as a permutation of the devices. -/
def shift (e : ℕ) : Dev nD ≃ Dev nD := ⟨fun c => fwd c e, fun c => bwd c e, fun c => bwd_fwd c e, fun c => fwd_bwd c e⟩

variable (m : (ℓ : Loc nD τ sig) → Buf (Elt F) ℓ)

/-- Device `c`'s columns of `x`: all rows. -/
abbrev A0 (c : Dev nD) : (⟨2, ![4096, 1024]⟩ : Shape).Idx → Elt F .f32 := m ((c : Thread nD τ).loc main_arg0)
/-- Device `c`'s copy of the weights. -/
abbrev A1 (c : Dev nD) : (⟨2, ![4096, 2048]⟩ : Shape).Idx → Elt F .f32 := m ((c : Thread nD τ).loc main_arg1)

/-- The two scales. -/
abbrev A2 (c : Dev nD) : (⟨1, ![1]⟩ : Shape).Idx → Elt F .f32 := m ((c : Thread nD τ).loc main_arg2)
abbrev A3 (c : Dev nD) : (⟨1, ![1]⟩ : Shape).Idx → Elt F .f32 := m ((c : Thread nD τ).loc main_arg3)

theorem rb_le (k : ℕ) : 1024 * (k % 4) + 1024 ≤ 4096 := by omega

/-- The rows of `c`'s part of `x` that belong to the device `r` places after `c`. -/
def xblk (c : Dev nD) (r : ℕ) : FVec F S1024x1024 .f32 := rowsOf 1024 ((c.val + r) % 4) (rb_le _) (A0 m c)
/-- The rows of the weights that multiply the columns held by the device `r` places before `c`. -/
def wblk (c : Dev nD) (r : ℕ) : FVec F S1024x2048 .f32 := rowsOf 1024 ((c.val + 4 - r) % 4) (rb_le _) (A1 m c)

/-- Slot `o` of the send staging buffer of `c`. -/
def X8 (c : Dev nD) (o : ℕ) : FVec F S1024x1024 .fp8e4m3 := truncf .fp8e4m3 (xblk m c (ord o)) bitsLt_fp8e4m3_f32
/-- Slot `d` of the gathered buffer of `c`: what the device `d` places before `c` holds of `c`'s rows. -/
def XF (c : Dev nD) (d : ℕ) : FVec F S1024x1024 .fp8e4m3 := truncf .fp8e4m3 (xblk m (bwd c d) d) bitsLt_fp8e4m3_f32
/-- Slot `d` of the converted weights. -/
def W8 (c : Dev nD) (d : ℕ) : FVec F S1024x2048 .fp8e4m3 := truncf .fp8e4m3 (wblk m c d) bitsLt_fp8e4m3_f32

theorem bwd_zero (c : Dev nD) : bwd c 0 = c := by
  have hc : c.val < 4 := c.isLt
  apply Fin.ext; show (c.val + 4 - 0 % 4) % 4 = c.val; omega

theorem X8_eq (c : Dev nD) (o : ℕ) : X8 m c o = XF m (fwd c (ord o)) (ord o) := by
  unfold X8 XF; rw [bwd_fwd]
theorem XF_zero (c : Dev nD) : truncf .fp8e4m3 (xblk m c 0) bitsLt_fp8e4m3_f32 = XF m c 0 := by
  unfold XF; rw [bwd_zero]

/-! ## The accumulator -/

/-- One row chunk of one product. -/
def dotC (x : FVec F S256x1024 .fp8e4m3) (w : FVec F S1024x2048 .fp8e4m3) : FVec F S256x2048 .f32 :=
  matmul dot_S256x1024_S1024x2048_S256x2048_1_0_0_1_n_n none x w (constant S256x2048 .f32 0x00000000#32)
/-- A row chunk of the accumulator with one more product added. -/
def addStep (o : FVec F S256x2048 .f32) (x : FVec F S256x1024 .fp8e4m3) (w : FVec F S1024x2048 .fp8e4m3) : FVec F S256x2048 .f32 :=
  addf o (dotC x w)
/-- The last product added, the sum scaled and cut at zero. -/
def finStep (s : F .f32) (o : FVec F S256x2048 .f32) (x : FVec F S256x1024 .fp8e4m3) (w : FVec F S1024x2048 .fp8e4m3) : FVec F S256x2048 .f32 :=
  maximumf (mulf (addStep o x w) (broadcast S256x2048 s)) (broadcast S256x2048 (Scalar.ofBits .f32 0x00000000#32))

/-- The `j`-th row chunk of a block, `j` read modulo four. -/
def ch {b : ℕ} {α : Type} (j : ℕ) (M : (⟨2, ![1024, b]⟩ : Shape).Idx → α) : (⟨2, ![256, b]⟩ : Shape).Idx → α :=
  rowsOf 256 (j % 4) (by omega) M

theorem ch_glue {b : ℕ} {α : Type} (W : ℕ → (⟨2, ![256, b]⟩ : Shape).Idx → α) (j : ℕ) (hj : j < 4) : ch j (glue W) = W j := by
  unfold ch; rw [rows_glue, Nat.mod_eq_of_lt hj]

/-- The product of the two scales. -/
def scl (c : Dev nD) : F .f32 :=
  Scalar.mulf (A2 m c (ix1 (0 : Fin 1))) (A3 m c (ix1 (0 : Fin 1)))

/-- The accumulator after `c`'s own product, -/
def O0 (c : Dev nD) : FVec F S1024x2048 .f32 :=
  matmul dot_S1024x1024_S1024x2048_S1024x2048_1_0_0_1_n_n none (XF m c 0) (W8 m c 0) (constant S1024x2048 .f32 0x00000000#32)
/-- after the product with what came one place, -/
def O1 (c : Dev nD) : FVec F S1024x2048 .f32 := glue fun j => addStep (ch j (O0 m c)) (ch j (XF m c 1)) (W8 m c 1)
/-- after the product with what came three places, -/
def O3 (c : Dev nD) : FVec F S1024x2048 .f32 := glue fun j => addStep (ch j (O1 m c)) (ch j (XF m c 3)) (W8 m c 3)
/-- and the result: the product with what came two places added, the sum scaled and cut at zero. -/
def OUT (c : Dev nD) : FVec F S1024x2048 .f32 := glue fun j => finStep (scl m c) (ch j (O3 m c)) (ch j (XF m c 2)) (W8 m c 2)

end Cert.KProof

end
-- ==== Proof.Protocol.lean ====
/-
# The protocol between the devices

Every device has a barrier cell, twelve send cells and twelve receive cells, one of each pair per transfer it makes
and takes: transfer `i` carries row chunk `i % 4` of batch `i / 4` over the distance `ord (i / 4)`. All cells run one round.

* The barrier cell of `c` has three duties of one unit, one per batch `o`; the duty `o` is paid by the device
  `ord o` places after `c` and hands `c` the four chunks of that device's gathered buffer batch `o` lands in.
* The receive cell `i` of `c` has one duty, paid by the transfer from the device `ord (i / 4)` places before `c`;
  it hands `c` the landed chunk with its contents.
* The send cell `i` of `c` has one duty, paid by its own transfer; it hands the source chunk back.
-/
module

public import proofs.«01_k».proof.Proof.Contents
public import Idealize.ShloMosaic.Lib.Transfers

@[expose] public section

noncomputable section

namespace Cert.KProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The duties of a cell: the batches for a barrier cell, `0` alone for the others. -/
abbrev Duty : Type := Fin 3
/-- Ghost state of the devices' protocol. -/
abbrev UB : Type := URounds (GSem nD τ sig) Duty
/-- All ghost state: the windows' own, the devices' protocol, the counters of local transfers. -/
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

variable (m : (ℓ : Loc nD τ sig) → Buf (Elt F) ℓ) (ρ : Dev nD → PrngReg)

/-! ## Cells -/

/-- The runtime's barrier semaphore. -/
abbrev barS : Sem sig := (SemArray.scalar (sig.barrier 0 rfl) : Sems sig S_).sem
abbrev sendS (i : Fin 12) : DmaSem sig := (⟨10 + i.val, by have := i.isLt; omega⟩ : Fin 34)
abbrev recvS (i : Fin 12) : DmaSem sig := (⟨22 + i.val, by have := i.isLt; omega⟩ : Fin 34)

/-- The cells of one device: the barrier's, then by transfer the send cells (`false`) and the receive cells (`true`). -/
abbrev CK : Type := Option (Bool × Fin 12)
abbrev csem : CK → SemLoc sig
  | none => .reg barS
  | some (false, i) => .dma (sendS i)
  | some (true, i) => .dma (recvS i)
abbrev kcell (ck : Dev nD × CK) : GSem nD τ sig := ((ck.1 : Thread nD τ), csem ck.2)

abbrev barCell (c : Dev nD) : GSem nD τ sig := kcell (c, none)
abbrev sendCell (c : Dev nD) (i : Fin 12) : GSem nD τ sig := kcell (c, some (false, i))
abbrev recvCell (c : Dev nD) (i : Fin 12) : GSem nD τ sig := kcell (c, some (true, i))

/-- The device transfer `i` of `c` goes to. -/
abbrev peer (c : Dev nD) (o : ℕ) : Dev nD := fwd c (ord o)

/-- What one transfer of a chunk credits. -/
abbrev Nc : ℕ := (View.whole cc0_scratch2 : View sig .tc .vmem _ _).ref.dmaCredit S256x1024 .fp8e4m3

/-! ## Pieces of the buffers, held -/

/-- Chunk `j` of slot `d` of the gathered buffer of `c`, holding `f`. -/
abbrev xfP (c : Dev nD) (d j : ℕ) (f : Buf (Elt F) ((c : Thread nD τ).loc cc0_scratch2)) : sProp 𝕄 :=
  ((c : Thread nD τ).loc cc0_scratch2) ↦[chunkS 4 1024 1024 d j]{fullShare} f
/-- Chunk `j` of slot `o` of the send staging buffer of `c`, holding `f`. -/
abbrev x8P (c : Dev nD) (o j : ℕ) (f : Buf (Elt F) ((c : Thread nD τ).loc cc0_scratch1)) : sProp 𝕄 :=
  ((c : Thread nD τ).loc cc0_scratch1) ↦[chunkS 3 1024 1024 o j]{fullShare} f

/-- The gathered buffer's contents, every slot landed. -/
abbrev xfC (c : Dev nD) : Buf (Elt F) ((c : Thread nD τ).loc cc0_scratch2) := stk (XF m c)
/-- The send staging buffer's contents. -/
abbrev x8C (c : Dev nD) : Buf (Elt F) ((c : Thread nD τ).loc cc0_scratch1) := stk (X8 m c)

/-- Where transfer `i` of `c` lands: a chunk of the target's gathered buffer, at any contents. -/
def lnd (c : Dev nD) (i : Fin 12) : sProp 𝕄 := iprop(∃ f, xfP (peer c (i.val / 4)) (ord (i.val / 4)) (i.val % 4) f)
/-- What landed. -/
def rcvd (c : Dev nD) (i : Fin 12) : sProp 𝕄 := xfP c (ord (i.val / 4)) (i.val % 4) (xfC m c)
/-- What was sent. -/
def src (c : Dev nD) (i : Fin 12) : sProp 𝕄 := x8P c (i.val / 4) (i.val % 4) (x8C m c)

instance lnd_storable (c : Dev nD) (i) : BI.Storable (upEmb : UEmb _ 𝕄) (lnd (F := F) c i) := by unfold lnd; infer_instance
instance rcvd_storable (c : Dev nD) (i) : BI.Storable (upEmb : UEmb _ 𝕄) (rcvd m c i) := by unfold rcvd; infer_instance
instance src_storable (c : Dev nD) (i) : BI.Storable (upEmb : UEmb _ 𝕄) (src m c i) := by unfold src; infer_instance

/-- Transfer `4 o + j`. -/
abbrev tr (o : Fin 3) (j : Fin 4) : Fin 12 := ⟨4 * o.val + j.val, by have := o.isLt; have := j.isLt; omega⟩

/-- What the duty `o` of the barrier cell of `c` hands over. -/
def barPay (c : Dev nD) (o : Fin 3) : sProp 𝕄 := iprop(lnd c (tr o 0) ∗ lnd c (tr o 1) ∗ lnd c (tr o 2) ∗ lnd c (tr o 3))

/-! ## The schedule -/

/-- Which of the device's cells a semaphore is, if it is one. -/
def cellKind (s : SemLoc sig) : Option CK :=
  match s with
  | .reg _ => some none
  | .dma q => if h : 10 ≤ q.val ∧ q.val < 22 then some (some (false, ⟨q.val - 10, by omega⟩))
    else if h : 22 ≤ q.val ∧ q.val < 34 then some (some (true, ⟨q.val - 22, by omega⟩)) else none

theorem cellKind_csem (k : CK) : cellKind (csem k) = some k := by
  rcases k with _ | ⟨b, i⟩
  · rfl
  · revert b i; decide

theorem csem_injective : Function.Injective csem := fun k k' h => by
  have := congrArg cellKind h
  rw [cellKind_csem, cellKind_csem] at this
  exact Option.some.inj this

/-- The duties of each kind of cell, the amount of each and what it hands over. -/
def dutiesK : Option CK → Finset Duty | some none => Finset.univ | some (some _) => {0} | none => ∅
def amountK : Option CK → ℕ | some (some _) => Nc | _ => 1
def payloadK (c : Dev nD) (d : Duty) : Option CK → sProp 𝕄
  | some none => barPay c d
  | some (some (false, i)) => src m c i
  | some (some (true, i)) => rcvd m c i
  | none => iprop(emp)

theorem Nc_pos : 0 < Nc := by decide

def Rd : Rounds.Schedule (GSem nD τ sig) Duty 𝕄 where
  duties g r := if r = 0 ∧ g.1.2 = .tc then dutiesK (cellKind g.2) else ∅
  unitless _ := False
  amount g _ _ := amountK (cellKind g.2)
  payload g _ d := payloadK m g.1.1 d (cellKind g.2)
  amount_pos g _ _ _ := by
    unfold amountK; split
    · exact Nc_pos
    · exact Nat.one_pos

instance Rd_payload_storable (g : GSem nD τ sig) (r : ℕ) (d : Duty) :
    BI.Storable (upEmb : UEmb _ 𝕄) ((Rd (F := F) m).payload g r d) := by
  show BI.Storable upEmb (payloadK m g.1.1 d (cellKind g.2))
  unfold payloadK barPay
  split <;> infer_instance

section Tables
variable (c : Dev nD) (i : Fin 12)

theorem duties_at (k : CK) : (Rd (F := F) m).duties (kcell (c, k)) 0 = dutiesK (some k) := by
  dsimp only [Rd]; rw [if_pos ⟨rfl, rfl⟩]; exact congrArg dutiesK (cellKind_csem k)
theorem duties_later (g : GSem nD τ sig) : ∀ r, 1 ≤ r → (Rd (F := F) m).duties g r = ∅ :=
  fun r hr => by dsimp only [Rd]; rw [if_neg fun h => by omega]
theorem amount_at (k : CK) (d : Duty) : (Rd (F := F) m).amount (kcell (c, k)) 0 d = amountK (some k) :=
  congrArg amountK (cellKind_csem k)
theorem payload_at (k : CK) (d : Duty) : (Rd (F := F) m).payload (kcell (c, k)) 0 d = payloadK m c d (some k) :=
  congrArg (payloadK m c d) (cellKind_csem k)

theorem expect_bar : (Rd (F := F) m).expect (barCell c) 0 = 3 := by
  unfold Schedule.expect Schedule.amountOf
  rw [duties_at, Finset.sum_congr rfl fun d _ => amount_at m c none d]
  rfl
theorem expect_xfer (b : Bool) : (Rd (F := F) m).expect (kcell (c, some (b, i))) 0 = Nc := by
  unfold Schedule.expect Schedule.amountOf
  rw [duties_at]
  show Finset.sum {0} _ = _
  rw [Finset.sum_singleton, amount_at]
  rfl

/-- All the barrier cell hands over: the landing chunks of the twelve transfers. -/
theorem rest_bar : bigSep ((Rd (F := F) m).duties (barCell c) 0 \ ∅) (fun d => (Rd (F := F) m).payload (barCell c) 0 d)
    = iprop(barPay c 0 ∗ barPay c 1 ∗ barPay c 2) := by
  rw [Finset.sdiff_empty, duties_at]
  show bigSep Finset.univ _ = _
  rw [bigSep_univ_eq_bigSepL [0, 1, 2] (by decide) (by decide), bigSepL_cons_cons, bigSepL_cons_cons, bigSepL_singleton,
    payload_at, payload_at, payload_at]
  rfl
theorem rest_xfer (b : Bool) : bigSep ((Rd (F := F) m).duties (kcell (c, some (b, i))) 0 \ ∅) (fun d => (Rd (F := F) m).payload (kcell (c, some (b, i))) 0 d)
    = payloadK m c 0 (some (some (b, i))) := by
  rw [Finset.sdiff_empty, duties_at]
  show bigSep {0} _ = _
  rw [bigSep_singleton, payload_at]

end Tables

/-! ## What a device owes; levels -/

/-- What `c` owes while its last `n` transfers are still to be started. -/
def OS (c : Dev nD) : ℕ → CellTallies nD τ sig Unit
  | 0 => 0
  | n + 1 => OS c n + (if h : n < 12 then tallyAt (recvCell (peer c ((11 - n) / 4)) ⟨11 - n, by omega⟩) () Nc else 0)

/-- What transfer `i` takes off. -/
theorem OS_peel (c : Dev nD) (i : Fin 12) : OS c (12 - i.val) = OS c (11 - i.val) + tallyAt (recvCell (peer c (i.val / 4)) i) () Nc := by
  have hi := i.isLt
  have e : 12 - i.val = (11 - i.val) + 1 := by omega
  rw [e, OS, dif_pos (by omega)]
  have e2 : 11 - (11 - i.val) = i.val := by omega
  congr 1
  simp only [e2]

/-- What `c` owes after its first two signals, after its first, and at launch. -/
def O₂ (c : Dev nD) : CellTallies nD τ sig Unit := OS c 12 + tallyAt (barCell (bwd c (ord 0))) () 1
def O₁ (c : Dev nD) : CellTallies nD τ sig Unit := O₂ c + tallyAt (barCell (bwd c (ord 2))) () 1
def O₀ (c : Dev nD) : CellTallies nD τ sig Unit := O₁ c + tallyAt (barCell (bwd c (ord 1))) () 1

def L (g : GSem nD τ sig) : Finset Unit := if g.1.2 = .tc then {()} else ∅
/-- Barrier cells at 1, receive cells at 2, everything else at 0. -/
def lvK : Option CK → ℕ | some none => 1 | some (some (true, _)) => 2 | _ => 0
def lv (g : GSem nD τ sig) (_ : Unit) : ℕ := lvK (cellKind g.2)

theorem L_of_ne (g : GSem nD τ sig) (h : g.1.2 ≠ .tc) : L g = ∅ := if_neg h
theorem L_tc (c : Dev nD) (sm : SemLoc sig) : L ((c : Thread nD τ), sm) = {()} := if_pos rfl
theorem lv_at (ck : Dev nD × CK) : lv (kcell ck) () = lvK (some ck.2) := congrArg lvK (cellKind_csem ck.2)

theorem OS_pos {c : Dev nD} {n : ℕ} {g : GSem nD τ sig} {u : Unit} (h : 0 < OS c n g u) : ∃ p i, g = recvCell p i := by
  induction n with
  | zero => exact absurd h (Nat.lt_irrefl 0)
  | succ n ih =>
    rw [OS, Pi.add_apply, Finsupp.add_apply] at h
    by_cases h0 : 0 < OS c n g u
    · exact ih h0
    split at h
    · rw [tallyAt_apply] at h
      split at h
      · rename_i hh; exact ⟨_, _, hh.1⟩
      · omega
    · exact absurd h (by show ¬ 0 < OS c n g u + 0; omega)

theorem O₀_pos {c : Dev nD} {g : GSem nD τ sig} {u : Unit} (h : 0 < O₀ c g u) :
    (∃ p i, g = recvCell p i) ∨ ∃ p, g = barCell p := by
  unfold O₀ O₁ O₂ at h
  rw [Pi.add_apply, Finsupp.add_apply, Pi.add_apply, Finsupp.add_apply, Pi.add_apply, Finsupp.add_apply, tallyAt_apply, tallyAt_apply, tallyAt_apply] at h
  by_cases h0 : 0 < OS c 12 g u
  · exact .inl (OS_pos h0)
  refine .inr ?_
  split at h
  · rename_i hh; exact ⟨_, hh.1⟩
  split at h
  · rename_i hh; exact ⟨_, hh.1⟩
  split at h
  · rename_i hh; exact ⟨_, hh.1⟩
  omega

/-- A wait at a semaphore of level `l` may be made while everything owed is above `l`. -/
theorem mayWait_of (c : Dev nD) (s : SemLoc sig) (l : ℕ) (hs : lvK (cellKind s) ≤ l) (O : CellTallies nD τ sig Unit)
    (hO : ∀ g u, 0 < O g u → ∃ ck : Dev nD × CK, g = kcell ck ∧ l < lvK (some ck.2)) :
    (levAts L lv : sProp 𝕄) ⊢ MayWait (c : Thread nD τ) s () O :=
  MayOwe.of_cut (L := L) (lev := lv) l (fun p hp => by rw [Finset.mem_singleton.mp hp, L_tc]; exact Finset.mem_singleton_self _)
    (fun g u hg => by obtain ⟨ck, rfl, _⟩ := hO g u hg; exact Finset.mem_singleton_self _)
    (fun p hp => by rw [Finset.mem_singleton.mp hp]; exact hs)
    (fun g u hg => by obtain ⟨ck, rfl, h⟩ := hO g u hg; rw [lv_at]; exact h)

theorem mayWait_OS (c : Dev nD) (s : SemLoc sig) (hs : lvK (cellKind s) ≤ 1) (n : ℕ) :
    (levAts L lv : sProp 𝕄) ⊢ MayWait (c : Thread nD τ) s () (OS c n) :=
  mayWait_of c s 1 hs _ fun g u h => by obtain ⟨p, i, rfl⟩ := OS_pos h; exact ⟨(p, some (true, i)), rfl, (by decide : 1 < 2)⟩

theorem mayWait_O₀ (c : Dev nD) (s : SemLoc sig) (hs : lvK (cellKind s) ≤ 0) :
    (levAts L lv : sProp 𝕄) ⊢ MayWait (c : Thread nD τ) s () (O₀ c) :=
  mayWait_of c s 0 hs _ fun g u h => by
    rcases O₀_pos h with ⟨p, i, rfl⟩ | ⟨p, rfl⟩
    · exact ⟨(p, some (true, i)), rfl, (by decide : 0 < 2)⟩
    · exact ⟨(p, none), rfl, (by decide : 0 < 1)⟩

end Cert.KProof

end
-- ==== Proof.Steps.lean ====
/-
# One rule per kind of step

The kernel's loads, stores, local transfers, remote transfers, signals and waits, each stated once over the pieces
and contents of `Contents` and the cells of `Protocol`. The parts of the kernel are executed with these.
-/
module

public import proofs.«01_k».proof.Proof.Protocol

@[expose] public section

noncomputable section

namespace Cert.KProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- A program run by device `c` ends with `Q` of its value. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`, whatever waits it has made. -/
def ow (c : Dev nD) (O : CellTallies nD τ sig Unit) : sProp 𝕄 := iprop(∃ W, owes (c : Thread nD τ) O W)

theorem ch_eq {b : ℕ} {β : Type} (M : (⟨2, ![1024, b]⟩ : Shape).Idx → β) (j : ℕ) (hj : j < 4) : ch j M = rowsOf 256 j (by omega) M := by
  have e : j % 4 = j := Nat.mod_eq_of_lt hj
  unfold ch; congr 1

/-! ## Loads and stores -/

/-- A write through a view leaves, on the view's elements, the contents that read back as what was written. -/
theorem write_eq {sp : Space} {s : Shape} {e : EltTy} (v : View sig .tc sp s e) (f g : v.ty.Contents (Elt F)) (w : s.Idx → Elt F e)
    (hg : v.read (Elt F) g = w) : ∀ i ∈ v.set, v.write (Elt F) f w Finset.univ i = g i := by
  intro i hi
  obtain ⟨x, -, rfl⟩ := Finset.mem_map.mp hi
  rw [View.write_emb_of_mem _ _ (Finset.mem_univ x), ← hg, View.read_apply, cast_cast, cast_eq]

section Local
variable (c : Dev nD) {α : Type} {Q : α → sProp (MT nD τ sig Unit (Elt F) ℕ UU ℕ)}

theorem ld {cs : CoreSpace} {s : Shape} {e : EltTy} {mr : Memref sig .tc cs s e} {r : Rect s} {hl : mr.view.LoadsAt r.toLoadRect}
    {k : (r.shape.Idx → Elt F e) → Prog (TpuEff nD τ sig (Elt F) Λ₀ .tc) α}
    {S : Finset (Idx ((mr.access r).loc (c : Thread nD τ)))} {f : Buf (Elt F) ((mr.access r).loc (c : Thread nD τ))} {v : r.shape.Idx → Elt F e}
    (hS : (mr.access r).set ⊆ S) (hv : (mr.access r).read (Elt F) f = v) :
    ((mr.access r).loc (c : Thread nD τ) ↦[S]{fullShare} f)
      ⊢ iprop((((mr.access r).loc (c : Thread nD τ) ↦[S]{fullShare} f) -∗ wpc c (k v) Q) -∗ wpc c (.op (.load mr r.toLoadRect hl) k) Q) := by
  subst hv; exact wp_load_rect 𝒱₀ (c : Thread nD τ) none Set.univ hS

theorem st {cs : CoreSpace} {s : Shape} {e : EltTy} {mr : Memref sig .tc cs s e} {r : Rect s} {w : r.shape.Idx → Elt F e}
    {hx : (mr.access r).Stores Finset.univ} {hm : (Finset.univ : Finset r.shape.Idx) = Finset.univ ∨ ∀ a, r.stride a = 1}
    {k : PUnit → Prog (TpuEff nD τ sig (Elt F) Λ₀ .tc) α}
    {S : Finset (Idx ((mr.access r).loc (c : Thread nD τ)))} {f g : Buf (Elt F) ((mr.access r).loc (c : Thread nD τ))}
    (hS : (mr.access r).set = S) (hg : (mr.access r).read (Elt F) g = w) :
    ((mr.access r).loc (c : Thread nD τ) ↦[S]{fullShare} f)
      ⊢ iprop((((mr.access r).loc (c : Thread nD τ) ↦[S]{fullShare} g) -∗ wpc c (k ⟨⟩) Q) -∗ wpc c (.op (.store mr r w Finset.univ hx hm) k) Q) := by
  subst hS
  have e : (((mr.access r).loc (c : Thread nD τ) ↦[(mr.access r).set]{fullShare} (mr.access r).write (Elt F) f w Finset.univ : sProp 𝕄))
      = ((mr.access r).loc (c : Thread nD τ) ↦[(mr.access r).set]{fullShare} g) := pointsTo_congr (write_eq (mr.access r) f g w hg)
  rw [← e]
  exact wp_store 𝒱₀ (c : Thread nD τ) none Set.univ (Finset.Subset.refl _)

/-! ### Slots of the two staging buffers for `x` and the weights -/

/-- A program that has ended meets a postcondition that holds of its value. -/
theorem ret (a : α) : Q a ⊢ wpc c (Prog.ret a) Q := by
  unfold wpc; rw [wp_ret]; iintro H; imodintro; iexact H

/-- Slot `i` of the staging buffer for `x`. -/
abbrev xsP (i : ℕ) (f : Buf (Elt F) ((c : Thread nD τ).loc cc0_scratch0)) : sProp 𝕄 :=
  ((c : Thread nD τ).loc cc0_scratch0) ↦[slotS 2 1024 1024 i]{fullShare} f
/-- Slot `i` of the staging buffer for the weights. -/
abbrev wsP (i : ℕ) (f : Buf (Elt F) ((c : Thread nD τ).loc cc0_scratch3)) : sProp 𝕄 :=
  ((c : Thread nD τ).loc cc0_scratch3) ↦[slotS 2 1024 2048 i]{fullShare} f
/-- Slot `i` of the converted weights. -/
abbrev w8P (i : ℕ) (f : Buf (Elt F) ((c : Thread nD τ).loc cc0_scratch4)) : sProp 𝕄 :=
  ((c : Thread nD τ).loc cc0_scratch4) ↦[slotS 4 1024 2048 i]{fullShare} f
/-- Slot `o` of the send staging buffer, all four chunks. -/
abbrev x8S (o : ℕ) (f : Buf (Elt F) ((c : Thread nD τ).loc cc0_scratch1)) : sProp 𝕄 :=
  ((c : Thread nD τ).loc cc0_scratch1) ↦[slotS 3 1024 1024 o]{fullShare} f
/-- Slot `d` of the gathered buffer, all four chunks. -/
abbrev xfS (d : ℕ) (f : Buf (Elt F) ((c : Thread nD τ).loc cc0_scratch2)) : sProp 𝕄 :=
  ((c : Thread nD τ).loc cc0_scratch2) ↦[slotS 4 1024 1024 d]{fullShare} f
/-- Row chunk `j` of the accumulator. -/
abbrev ovP (j : ℕ) (f : Buf (Elt F) ((c : Thread nD τ).loc cc0_scratch5)) : sProp 𝕄 :=
  ((c : Thread nD τ).loc cc0_scratch5) ↦[rowS 1024 2048 256 j]{fullShare} f

/-- The whole accumulator. -/
abbrev ovW (f : Buf (Elt F) ((c : Thread nD τ).loc cc0_scratch5)) : sProp 𝕄 := ((c : Thread nD τ).loc cc0_scratch5) ↦{fullShare} f

/-- What staging slot for `x` holds once the rows for the device `r` places on are in. -/
abbrev xsC (r : ℕ) : Buf (Elt F) ((c : Thread nD τ).loc cc0_scratch0) := stk fun _ => xblk m c r
abbrev wsC (r : ℕ) : Buf (Elt F) ((c : Thread nD τ).loc cc0_scratch3) := stk fun _ => wblk m c r
abbrev w8C : Buf (Elt F) ((c : Thread nD τ).loc cc0_scratch4) := stk (W8 m c)

variable {m}

theorem ld_xs (i r : ℕ) {off : Fin 3 → ℕ} (h : off = ![i, 0, 0]) {inb : ∀ a, off a + S1x1024x1024.size a ≤ S2x1024x1024.size a}
    {hl} {k : (S1x1024x1024.Idx → Elt F .f32) → Prog (TpuEff nD τ sig (Elt F) Λ₀ .tc) α} :
    xsP c i (xsC m c r)
      ⊢ iprop((xsP c i (xsC m c r) -∗ wpc c (k (lift1 (xblk m c r))) Q)
        -∗ wpc c (.op (.load (Memref.whole cc0_scratch0) (Rect.unit (s := S2x1024x1024) off S1x1024x1024.size inb).toLoadRect hl) k) Q) :=
  ld c (mr := Memref.whole cc0_scratch0) (r := Rect.unit (s := S2x1024x1024) off S1x1024x1024.size inb)
    (((View.set_slice_whole cc0_scratch0 _).trans (slot_set i h (inb := inb))).subset)
    (funext fun x => stk_slot (fun _ => xblk m c r) i h x)

theorem ld_ws (i r : ℕ) {off : Fin 3 → ℕ} (h : off = ![i, 0, 0]) {inb : ∀ a, off a + S1x1024x2048.size a ≤ S2x1024x2048.size a}
    {hl} {k : (S1x1024x2048.Idx → Elt F .f32) → Prog (TpuEff nD τ sig (Elt F) Λ₀ .tc) α} :
    wsP c i (wsC m c r)
      ⊢ iprop((wsP c i (wsC m c r) -∗ wpc c (k (lift1 (wblk m c r))) Q)
        -∗ wpc c (.op (.load (Memref.whole cc0_scratch3) (Rect.unit (s := S2x1024x2048) off S1x1024x2048.size inb).toLoadRect hl) k) Q) :=
  ld c (mr := Memref.whole cc0_scratch3) (r := Rect.unit (s := S2x1024x2048) off S1x1024x2048.size inb)
    (((View.set_slice_whole cc0_scratch3 _).trans (slot_set i h (inb := inb))).subset)
    (funext fun x => stk_slot (fun _ => wblk m c r) i h x)

theorem ld_w8 (V : ℕ → S1024x2048.Idx → Elt F .fp8e4m3) (i : ℕ) {off : Fin 3 → ℕ} (h : off = ![i, 0, 0]) {inb : ∀ a, off a + S1x1024x2048.size a ≤ S4x1024x2048.size a}
    {hl} {k : (S1x1024x2048.Idx → Elt F .fp8e4m3) → Prog (TpuEff nD τ sig (Elt F) Λ₀ .tc) α} :
    w8P c i (stk V)
      ⊢ iprop((w8P c i (stk V) -∗ wpc c (k (lift1 (V i))) Q)
        -∗ wpc c (.op (.load (Memref.whole cc0_scratch4) (Rect.unit (s := S4x1024x2048) off S1x1024x2048.size inb).toLoadRect hl) k) Q) :=
  ld c (mr := Memref.whole cc0_scratch4) (r := Rect.unit (s := S4x1024x2048) off S1x1024x2048.size inb)
    (((View.set_slice_whole cc0_scratch4 _).trans (slot_set i h (inb := inb))).subset)
    (funext fun x => stk_slot V i h x)

/-- A slot read before it is overwritten: the value read is not used. -/
theorem ld_w8' (i : ℕ) {f} {off : Fin 3 → ℕ} (h : off = ![i, 0, 0]) {inb : ∀ a, off a + S1x1024x2048.size a ≤ S4x1024x2048.size a}
    {hl} {p : Prog (TpuEff nD τ sig (Elt F) Λ₀ .tc) α} :
    w8P c i f
      ⊢ iprop((w8P c i f -∗ wpc c p Q)
        -∗ wpc c (.op (.load (Memref.whole cc0_scratch4) (Rect.unit (s := S4x1024x2048) off S1x1024x2048.size inb).toLoadRect hl) fun _ => p) Q) :=
  ld (F := F) (Q := Q) c (f := f) (k := fun _ => p) (mr := Memref.whole cc0_scratch4) (r := Rect.unit (s := S4x1024x2048) off S1x1024x2048.size inb)
    (((View.set_slice_whole cc0_scratch4 _).trans (slot_set i h (inb := inb))).subset) rfl

theorem st_w8 (V : ℕ → S1024x2048.Idx → Elt F .fp8e4m3) (i : ℕ) {f} {off : Fin 3 → ℕ} (h : off = ![i, 0, 0]) {inb : ∀ a, off a + S1x1024x2048.size a ≤ S4x1024x2048.size a}
    {w : S1x1024x2048.Idx → Elt F .fp8e4m3} {hx hm} (hw : w = lift1 (V i)) {k : PUnit → Prog (TpuEff nD τ sig (Elt F) Λ₀ .tc) α} :
    w8P c i f
      ⊢ iprop((w8P c i (stk V) -∗ wpc c (k ⟨⟩) Q)
        -∗ wpc c (.op (.store (Memref.whole cc0_scratch4) (Rect.unit (s := S4x1024x2048) off S1x1024x2048.size inb) w Finset.univ hx hm) k) Q) :=
  st c (mr := Memref.whole cc0_scratch4) (r := Rect.unit (s := S4x1024x2048) off S1x1024x2048.size inb)
    ((View.set_slice_whole cc0_scratch4 _).trans (slot_set i h (inb := inb)))
    (hw ▸ funext fun x => stk_slot V i h x)

theorem ld_x8' (i : ℕ) {f} {off : Fin 3 → ℕ} (h : off = ![i, 0, 0]) {inb : ∀ a, off a + S1x1024x1024.size a ≤ S3x1024x1024.size a}
    {hl} {p : Prog (TpuEff nD τ sig (Elt F) Λ₀ .tc) α} :
    x8S c i f
      ⊢ iprop((x8S c i f -∗ wpc c p Q)
        -∗ wpc c (.op (.load (Memref.whole cc0_scratch1) (Rect.unit (s := S3x1024x1024) off S1x1024x1024.size inb).toLoadRect hl) fun _ => p) Q) :=
  ld (F := F) (Q := Q) c (f := f) (k := fun _ => p) (mr := Memref.whole cc0_scratch1) (r := Rect.unit (s := S3x1024x1024) off S1x1024x1024.size inb)
    (((View.set_slice_whole cc0_scratch1 _).trans (slot_set i h (inb := inb))).subset) rfl

theorem st_x8 (V : ℕ → S1024x1024.Idx → Elt F .fp8e4m3) (i : ℕ) {f} {off : Fin 3 → ℕ} (h : off = ![i, 0, 0]) {inb : ∀ a, off a + S1x1024x1024.size a ≤ S3x1024x1024.size a}
    {w : S1x1024x1024.Idx → Elt F .fp8e4m3} {hx hm} (hw : w = lift1 (V i)) {k : PUnit → Prog (TpuEff nD τ sig (Elt F) Λ₀ .tc) α} :
    x8S c i f
      ⊢ iprop((x8S c i (stk V) -∗ wpc c (k ⟨⟩) Q)
        -∗ wpc c (.op (.store (Memref.whole cc0_scratch1) (Rect.unit (s := S3x1024x1024) off S1x1024x1024.size inb) w Finset.univ hx hm) k) Q) :=
  st c (mr := Memref.whole cc0_scratch1) (r := Rect.unit (s := S3x1024x1024) off S1x1024x1024.size inb)
    ((View.set_slice_whole cc0_scratch1 _).trans (slot_set i h (inb := inb)))
    (hw ▸ funext fun x => stk_slot V i h x)

theorem ld_xf (V : ℕ → S1024x1024.Idx → Elt F .fp8e4m3) (i : ℕ) {off : Fin 3 → ℕ} (h : off = ![i, 0, 0]) {inb : ∀ a, off a + S1x1024x1024.size a ≤ S4x1024x1024.size a}
    {hl} {k : (S1x1024x1024.Idx → Elt F .fp8e4m3) → Prog (TpuEff nD τ sig (Elt F) Λ₀ .tc) α} :
    xfS c i (stk V)
      ⊢ iprop((xfS c i (stk V) -∗ wpc c (k (lift1 (V i))) Q)
        -∗ wpc c (.op (.load (Memref.whole cc0_scratch2) (Rect.unit (s := S4x1024x1024) off S1x1024x1024.size inb).toLoadRect hl) k) Q) :=
  ld c (mr := Memref.whole cc0_scratch2) (r := Rect.unit (s := S4x1024x1024) off S1x1024x1024.size inb)
    (((View.set_slice_whole cc0_scratch2 _).trans (slot_set i h (inb := inb))).subset)
    (funext fun x => stk_slot V i h x)

theorem ld_xf' (i : ℕ) {f} {off : Fin 3 → ℕ} (h : off = ![i, 0, 0]) {inb : ∀ a, off a + S1x1024x1024.size a ≤ S4x1024x1024.size a}
    {hl} {p : Prog (TpuEff nD τ sig (Elt F) Λ₀ .tc) α} :
    xfS c i f
      ⊢ iprop((xfS c i f -∗ wpc c p Q)
        -∗ wpc c (.op (.load (Memref.whole cc0_scratch2) (Rect.unit (s := S4x1024x1024) off S1x1024x1024.size inb).toLoadRect hl) fun _ => p) Q) :=
  ld (F := F) (Q := Q) c (f := f) (k := fun _ => p) (mr := Memref.whole cc0_scratch2) (r := Rect.unit (s := S4x1024x1024) off S1x1024x1024.size inb)
    (((View.set_slice_whole cc0_scratch2 _).trans (slot_set i h (inb := inb))).subset) rfl

theorem st_xf (V : ℕ → S1024x1024.Idx → Elt F .fp8e4m3) (i : ℕ) {f} {off : Fin 3 → ℕ} (h : off = ![i, 0, 0]) {inb : ∀ a, off a + S1x1024x1024.size a ≤ S4x1024x1024.size a}
    {w : S1x1024x1024.Idx → Elt F .fp8e4m3} {hx hm} (hw : w = lift1 (V i)) {k : PUnit → Prog (TpuEff nD τ sig (Elt F) Λ₀ .tc) α} :
    xfS c i f
      ⊢ iprop((xfS c i (stk V) -∗ wpc c (k ⟨⟩) Q)
        -∗ wpc c (.op (.store (Memref.whole cc0_scratch2) (Rect.unit (s := S4x1024x1024) off S1x1024x1024.size inb) w Finset.univ hx hm) k) Q) :=
  st c (mr := Memref.whole cc0_scratch2) (r := Rect.unit (s := S4x1024x1024) off S1x1024x1024.size inb)
    ((View.set_slice_whole cc0_scratch2 _).trans (slot_set i h (inb := inb)))
    (hw ▸ funext fun x => stk_slot V i h x)

/-- A landed chunk of the gathered buffer. -/
theorem ld_xfc (V : ℕ → S1024x1024.Idx → Elt F .fp8e4m3) (i j : ℕ) (hj : j < 4) {off : Fin 3 → ℕ} (h : off = ![i, 256 * j, 0]) {inb : ∀ a, off a + S1x256x1024.size a ≤ S4x1024x1024.size a}
    {hl} {k : (S1x256x1024.Idx → Elt F .fp8e4m3) → Prog (TpuEff nD τ sig (Elt F) Λ₀ .tc) α} :
    xfP c i j (stk V)
      ⊢ iprop((xfP c i j (stk V) -∗ wpc c (k (lift1 (ch j (V i)))) Q)
        -∗ wpc c (.op (.load (Memref.whole cc0_scratch2) (Rect.unit (s := S4x1024x1024) off S1x256x1024.size inb).toLoadRect hl) k) Q) :=
  ld c (mr := Memref.whole cc0_scratch2) (r := Rect.unit (s := S4x1024x1024) off S1x256x1024.size inb)
    (((View.set_slice_whole cc0_scratch2 _).trans (chunk_set i j h (inb := inb))).subset)
    (funext fun x => (stk_chunk V i j (by omega) h x).trans (congrFun (congrArg lift1 (ch_eq _ j hj).symm) x))

/-! ### The accumulator -/

theorem ld_ov (M : S1024x2048.Idx → Elt F .f32) (j : ℕ) (hj : j < 4) {off : Fin 2 → ℕ} (h : off = ![256 * j, 0]) {inb : ∀ a, off a + S256x2048.size a ≤ S1024x2048.size a}
    {hl} {k : (S256x2048.Idx → Elt F .f32) → Prog (TpuEff nD τ sig (Elt F) Λ₀ .tc) α} :
    ovP c j M
      ⊢ iprop((ovP c j M -∗ wpc c (k (ch j M)) Q)
        -∗ wpc c (.op (.load (Memref.whole cc0_scratch5) (Rect.unit (s := S1024x2048) off S256x2048.size inb).toLoadRect hl) k) Q) :=
  ld c (mr := Memref.whole cc0_scratch5) (r := Rect.unit (s := S1024x2048) off S256x2048.size inb)
    (((View.set_slice_whole cc0_scratch5 _).trans (row_set 256 j (by decide) h (inb := inb))).subset)
    (funext fun x => (rows_at M 256 j (by omega) h x).trans (congrFun (ch_eq _ j hj).symm x))

theorem ld_ov' (M : S1024x2048.Idx → Elt F .f32) (j : ℕ) {off : Fin 2 → ℕ} (h : off = ![256 * j, 0]) {inb : ∀ a, off a + S256x2048.size a ≤ S1024x2048.size a}
    {hl} {p : Prog (TpuEff nD τ sig (Elt F) Λ₀ .tc) α} :
    ovP c j M
      ⊢ iprop((ovP c j M -∗ wpc c p Q)
        -∗ wpc c (.op (.load (Memref.whole cc0_scratch5) (Rect.unit (s := S1024x2048) off S256x2048.size inb).toLoadRect hl) fun _ => p) Q) :=
  ld (F := F) (Q := Q) c (f := M) (k := fun _ => p) (mr := Memref.whole cc0_scratch5) (r := Rect.unit (s := S1024x2048) off S256x2048.size inb)
    (((View.set_slice_whole cc0_scratch5 _).trans (row_set 256 j (by decide) h (inb := inb))).subset) rfl

theorem st_ov (M : S1024x2048.Idx → Elt F .f32) (j : ℕ) (hj : j < 4) {f} {off : Fin 2 → ℕ} (h : off = ![256 * j, 0]) {inb : ∀ a, off a + S256x2048.size a ≤ S1024x2048.size a}
    {w : S256x2048.Idx → Elt F .f32} {hx hm} (hw : w = ch j M) {k : PUnit → Prog (TpuEff nD τ sig (Elt F) Λ₀ .tc) α} :
    ovP c j f
      ⊢ iprop((ovP c j M -∗ wpc c (k ⟨⟩) Q)
        -∗ wpc c (.op (.store (Memref.whole cc0_scratch5) (Rect.unit (s := S1024x2048) off S256x2048.size inb) w Finset.univ hx hm) k) Q) :=
  st c (mr := Memref.whole cc0_scratch5) (r := Rect.unit (s := S1024x2048) off S256x2048.size inb)
    ((View.set_slice_whole cc0_scratch5 _).trans (row_set 256 j (by decide) h (inb := inb)))
    (hw ▸ funext fun x => (rows_at M 256 j (by omega) h x).trans (congrFun (ch_eq _ j hj).symm x))

theorem zero2 : (![0, 0] : Fin 2 → ℕ) = fun _ => 0 := funext fun a => by match a with | ⟨0, _⟩ => rfl | ⟨1, _⟩ => rfl

theorem ld_ovw {f} {inb : ∀ a, (![0, 0] : Fin 2 → ℕ) a + S1024x2048.size a ≤ S1024x2048.size a}
    {hl} {k : (S1024x2048.Idx → Elt F .f32) → Prog (TpuEff nD τ sig (Elt F) Λ₀ .tc) α} :
    ovW c f
      ⊢ iprop((ovW c f -∗ wpc c (k f) Q)
        -∗ wpc c (.op (.load (Memref.whole cc0_scratch5) (Rect.unit (s := S1024x2048) ![0, 0] S1024x2048.size inb).toLoadRect hl) k) Q) :=
  ld c (mr := Memref.whole cc0_scratch5) (r := Rect.unit (s := S1024x2048) ![0, 0] S1024x2048.size inb) (Finset.subset_univ _)
    (Memref.readAt_unit_zero (Elt F) cc0_scratch5 zero2 _ f)

theorem st_ovw {f} {inb : ∀ a, (![0, 0] : Fin 2 → ℕ) a + S1024x2048.size a ≤ S1024x2048.size a}
    {w : S1024x2048.Idx → Elt F .f32} {hx hm} {k : PUnit → Prog (TpuEff nD τ sig (Elt F) Λ₀ .tc) α} :
    ovW c f
      ⊢ iprop((ovW c w -∗ wpc c (k ⟨⟩) Q)
        -∗ wpc c (.op (.store (Memref.whole cc0_scratch5) (Rect.unit (s := S1024x2048) ![0, 0] S1024x2048.size inb) w Finset.univ hx hm) k) Q) :=
  st c (mr := Memref.whole cc0_scratch5) (r := Rect.unit (s := S1024x2048) ![0, 0] S1024x2048.size inb)
    ((View.set_slice_whole cc0_scratch5 _).trans ((row_set 1024 0 (by decide) rfl (inb := inb)).trans
      (Finset.filter_true_of_mem fun x _ => Nat.div_eq_of_lt (x 0).isLt)))
    (Memref.readAt_unit_zero (Elt F) cc0_scratch5 zero2 _ w)

end Local

end Cert.KProof

end
-- ==== Proof.Moves.lean ====
/-
# One rule per kind of transfer and wait

Local copies with their waits, the transfers to other devices, the signals and the waits at the protocol's cells.
-/
module

public import proofs.«01_k».proof.Proof.Steps

@[expose] public section

noncomputable section

namespace Cert.KProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ)

/-! ## What every device knows -/

/-- Every cell's invariant, that every cell is at its round, and the levels. -/
def Recs (K : Dev nD × CK → ℕ) : sProp 𝕄 :=
  iprop((bigSep Finset.univ fun ck : Dev nD × CK => cellInv ER (Rd m) (K ck) (kcell ck))
    ∗ (bigSep Finset.univ fun ck : Dev nD × CK => reached ER (kcell ck) 0) ∗ levAts L lv)

instance Recs_persistent (K : Dev nD × CK → ℕ) : BI.Persistent (Recs m K) := by unfold Recs; infer_instance

theorem inv_at (K : Dev nD × CK → ℕ) (ck : Dev nD × CK) :
    (bigSep Finset.univ fun ck : Dev nD × CK => (cellInv ER (Rd m) (K ck) (kcell ck) : sProp 𝕄)) ⊢ cellInv ER (Rd m) (K ck) (kcell ck) :=
  bigSep_elim (Finset.mem_univ ck)
theorem reached_at (ck : Dev nD × CK) :
    (bigSep Finset.univ fun ck : Dev nD × CK => (reached ER (kcell ck) 0 : sProp 𝕄)) ⊢ reached ER (kcell ck) 0 :=
  bigSep_elim (Finset.mem_univ ck)

theorem Recs_inv (K : Dev nD × CK → ℕ) (ck : Dev nD × CK) : Recs m K ⊢ cellInv ER (Rd m) (K ck) (kcell ck) := by
  unfold Recs
  iintro ⟨H, -, -⟩
  iapply (inv_at m K ck); iexact H
theorem Recs_reached (K : Dev nD × CK → ℕ) (ck : Dev nD × CK) : Recs m K ⊢ reached ER (kcell ck) 0 := by
  unfold Recs
  iintro ⟨-, H, -⟩
  iapply (reached_at (F := F) ck); iexact H
theorem Recs_lev (K : Dev nD × CK → ℕ) : Recs m K ⊢ levAts L lv := by
  unfold Recs
  iintro ⟨-, -, H⟩
  iexact H

/-- A block read through its unit axis. -/
theorem lift1_reshape {β : Type} {a b : ℕ} (M : (⟨2, ![a, b]⟩ : Shape).Idx → β) (h : (⟨2, ![a, b]⟩ : Shape).numel = (⟨3, ![1, a, b]⟩ : Shape).numel) (x : (⟨2, ![a, b]⟩ : Shape).Idx) :
    lift1 M (Shape.reshapeEquiv h x) = M x := by
  have e : Shape.reshapeEquiv h x = ix3 ⟨0, Nat.one_pos⟩ (x 0) (x 1) :=
    (congrArg (Shape.reshapeEquiv h) (eq_ix2 x)).trans (reshapeEquiv_ix2_1ab h (x 0) (x 1))
  rw [e]
  exact congrArg M (eq_ix2 x).symm

section
variable (c : Dev nD) {α : Type} {Q : α → sProp (MT nD τ sig Unit (Elt F) ℕ UU ℕ)}

/-! ## Local copies -/

/-- A copy within the device, the landed contents named `g`. -/
theorem ls {sp sp' : Space} {s : Shape} {e : EltTy} {sr : Memref sig .tc sp s e} {ds : Memref sig .tc sp' s e} {q : DmaSem sig}
    {hsrc : sr.view.WordExact} {hdst : ds.view.WordExact} {hsem}
    {k : PUnit → Prog (TpuEff nD τ sig (Elt F) Λ₀ .tc) α}
    {Ss : Finset (Idx (sr.view.loc (c : Thread nD τ)))} {Sd : Finset (Idx (ds.view.loc (c : Thread nD τ)))}
    {fs : Buf (Elt F) (sr.view.loc (c : Thread nD τ))} {fd g : Buf (Elt F) (ds.view.loc (c : Thread nD τ))}
    (N : ℕ) (hN : ds.view.dmaCredit = N) (hN0 : 0 < s.numel) (hSs : sr.view.set = Ss) (hSd : ds.view.set = Sd)
    (hg : ds.view.read (Elt F) g = sr.view.read (Elt F) fs) :
    iprop((sr.view.loc (c : Thread nD τ) ↦[Ss]{fullShare} fs) ∗ (ds.view.loc (c : Thread nD τ) ↦[Sd]{fullShare} fd) ∗ semVal ((c : Thread nD τ), .dma q) 0)
      ⊢ iprop((Flight EC (c : Thread nD τ) (.dma q) () N
            iprop((ds.view.loc (c : Thread nD τ) ↦[Sd]{fullShare} g) ∗ (sr.view.loc (c : Thread nD τ) ↦[Ss]{fullShare} fs)) -∗ wpc c (k ⟨⟩) Q)
        -∗ wpc c (.op (.enqueueDma sr (.here ds) (.dma q) hsrc hdst hsem) k) Q) := by
  subst hSs hSd
  iintro ⟨Hs, Hd, Hv⟩ Hk
  iapply (wp_dmaLocal EC 𝒱₀ (c : Thread nD τ) none (src := sr) (dst := ds) (sm := .dma q) () N hN (hN ▸ View.dmaCredit_pos _ hN0) (Finset.Subset.refl _)) $$ [Hs Hd Hv]
  · isplitl [Hs]; · iexact Hs
    isplitl [Hd] <;> iassumption
  iintro HF
  iapply Hk
  iapply (Flight_mono EC (c : Thread nD τ) (sep_mono_left (Entails.of_eq (pointsTo_congr (write_eq ds.view fd g _ hg))))) $$ HF

/-- The wait for a local copy, made while `n` transfers are still owed. -/
theorem wl {K : Dev nD × CK → ℕ} {sp sp' : Space} {s s' : Shape} {e e' : EltTy} {sr : Memref sig .tc sp' s' e'} {ds : Memref sig .tc sp s e} {q : DmaSem sig}
    {hsrc : sr.view.WordExact} {hdst : ds.view.WordExact} {k : PUnit → Prog (TpuEff nD τ sig (Elt F) Λ₀ .tc) α}
    (N : ℕ) (hN : ds.view.dmaCredit = N) (n : ℕ) (hs : lvK (cellKind (.dma q)) ≤ 1) {D : sProp 𝕄} :
    iprop(Recs m K ∗ Flight EC (c : Thread nD τ) (.dma q) () N D ∗ ow c (OS c n))
      ⊢ iprop((D ∗ semVal ((c : Thread nD τ), .dma q) 0 ∗ ow c (OS c n) -∗ wpc c (k ⟨⟩) Q)
        -∗ wpc c (.op (.waitDma2 q sr ds hsrc hdst) k) Q) := by
  unfold ow
  iintro ⟨#HR, HF, ⟨%W, HO⟩⟩ Hk
  iapply (wp_waitLocalO EC 𝒱₀ (c : Thread nD τ) none () hN) $$ [HF HO]
  · isplitl [HF]; · iexact HF
    isplitl [HO]; · iexact HO
    iapply (mayWait_OS c (.dma q) hs n)
    iapply (Recs_lev m K); iexact HR
  iintro ⟨HD, Hv, HO⟩
  iapply Hk
  isplitl [HD]; · iexact HD
  isplitl [Hv]; · iexact Hv
  iexists _; iexact HO

/-! ## Signals and the barrier -/

/-- A signal to `p`'s barrier cell, paying its duty `d`. -/
theorem sig' {K : Dev nD × CK → ℕ} (p : Dev nD) (d : Fin 3) {n : Dev nD} (hn : n = p) {k' : ℕ} (hk' : 1 = k') {k : PUnit → Prog (TpuEff nD τ sig (Elt F) Λ₀ .tc) α}
    {O₀ : CellTallies nD τ sig Unit} (O : CellTallies nD τ sig Unit) (hO : O₀ = O + tallyAt (barCell p) () 1) :
    iprop(Recs m K ∗ ow c O₀ ∗ dutyTok ER (barCell p) 0 d ∗ barPay p d)
      ⊢ iprop((ow c O -∗ wpc c (k ⟨⟩) Q) -∗ wpc c (.op (.semSignal (n, .tc) barS k') k) Q) := by
  subst hn hk'
  unfold ow
  iintro ⟨#HR, ⟨%W, HO⟩, Ht, Hp⟩ Hk
  iapply (Rounds.wp_signal 𝒱₀ ER (Rd m) (c : Thread nD τ) none (dst := (n : Thread nD τ)) (κ := K (n, none))
      (d := d) (by rw [duties_at m n none]; exact Finset.mem_univ _) (amount_at m n none d) () O hO) $$ [HO Ht Hp]
  · isplitr; · iapply (Recs_inv m K (n, none)); iexact HR
    isplitl [HO]; · iexact HO
    isplitl [Ht]; · iexact Ht
    isplitl [Hp]
    · rw [payload_at m n none d]; unfold payloadK; iexact Hp
    iapply (Recs_reached m K (n, none)); iexact HR
  iintro HO
  iapply Hk
  iexists W; iexact HO

/-- The wait at the barrier: the landing chunks of the twelve transfers. -/
theorem barW {K : Dev nD × CK → ℕ} {k' : ℕ} (hk' : k' = 3) {k : PUnit → Prog (TpuEff nD τ sig (Elt F) Λ₀ .tc) α} :
    iprop(Recs m K ∗ ow c (OS c 12) ∗ cred (tallyAt (barCell c) () 3) ∗ atPos ER (barCell c) 0 ∅ 0)
      ⊢ iprop((ow c (OS c 12) ∗ semVal (barCell c) 0 ∗ barPay c 0 ∗ barPay c 1 ∗ barPay c 2 -∗ wpc c (k ⟨⟩) Q)
        -∗ wpc c (.op (.semWait barS k') k) Q) := by
  subst hk'
  unfold ow
  iintro ⟨#HR, ⟨%W, HO⟩, Hc, Ha⟩ Hk
  iapply (Rounds.wp_wait_rest_token 𝒱₀ ER (Rd m) (c : Thread nD τ) none (κ := K (c, none))
      (wpE_semWait_eq 𝒱₀ (c : Thread nD τ) none Set.univ) (Set.mem_univ _) () (O := OS c 12) (W := W) (R := 0) (m := 0) (T := ∅)
      (by rw [expect_bar m c])) $$ [Hc HO Ha]
  · isplitr; · iapply (Recs_inv m K (c, none)); iexact HR
    isplitl [Hc]; · iexact Hc
    isplitl [HO]; · iexact HO
    isplitr
    · iapply (mayWait_OS c (.reg barS) (le_refl 1) 12)
      iapply (Recs_lev m K); iexact HR
    iexact Ha
  iintro ⟨HO, Ha, -, Hpay⟩
  imod (Rounds.cell_close ER (Rd m) (Set.mem_univ (K (c, none))) (fun h => h) (R := 0 + 1) (duties_later m (barCell c))) $$ [Ha] with Hz
  · isplitr; · iapply (Recs_inv m K (c, none)); iexact HR
    iexact Ha
  ihave Hp := (Entails.of_eq (rest_bar m c)) $$ Hpay
  iapply Hk
  isplitl [HO]; · iexists _; iexact HO
  isplitl [Hz]; · iexact Hz
  iexact Hp

/-! ## Transfers to the other devices -/

variable (i : Fin 12)

/-- What a device holds for its transfer `i`: the tokens of the two duties it pays and its place in its own send cell. -/
def sndTok : sProp 𝕄 :=
  iprop(dutyTok ER (sendCell c i) 0 0 ∗ dutyTok ER (recvCell (peer c (i.val / 4)) i) 0 0 ∗ atPos ER (sendCell c i) 0 ∅ 0)
/-- What it holds for a transfer started: the credit to wait for, and its place. -/
def sntTok : sProp 𝕄 := iprop(cred (tallyAt (sendCell c i) () Nc) ∗ atPos ER (sendCell c i) 0 ∅ 0)
/-- What it holds for the transfer `i` it takes. -/
def rcvTok : sProp 𝕄 := iprop(cred (tallyAt (recvCell c i) () Nc) ∗ atPos ER (recvCell c i) 0 ∅ 0)

/-- Transfer `i`: the chunk of the send staging buffer goes to the peer's gathered buffer. -/
theorem snd {K : Dev nD × CK → ℕ} (N N' : ℕ) (hN : N = 12 - i.val) (hN' : N' = 11 - i.val) {n : Dev nD} {o j d : ℕ} (hn : n = peer c (i.val / 4)) (ho : o = i.val / 4) (hj : j = i.val % 4) (hd : d = ord (i.val / 4))
    {qs qr : DmaSem sig} (hqs : qs = sendS i) (hqr : qr = recvS i)
    {off6 off7 : Fin 3 → ℕ} (h6 : off6 = ![o, 256 * j, 0]) (h7 : off7 = ![d, 256 * j, 0])
    {inb6 : ∀ a, off6 a + S1x256x1024.size a ≤ S3x1024x1024.size a} {inb7 : ∀ a, off7 a + S1x256x1024.size a ≤ S4x1024x1024.size a}
    {hs6 hs7 h6' h7'} {hsc} {hsrc hdst} {hsem}
    {k : PUnit → Prog (TpuEff nD τ sig (Elt F) Λ₀ .tc) α} :
    iprop(Recs m K ∗ src m c i ∗ lnd c i ∗ ow c (OS c N) ∗ sndTok c i)
      ⊢ iprop((sntTok c i ∗ ow c (OS c N') -∗ wpc c (k ⟨⟩) Q)
        -∗ wpc c (.op (.enqueueDma
            (((Memref.whole cc0_scratch1).slice (Rect.unit (s := S3x1024x1024) off6 S1x256x1024.size inb6) h6').squeeze S256x1024 hs6)
            (.remote (Dev.tc n : Thread nD τ)
              (((Memref.whole cc0_scratch2).slice (Rect.unit (s := S4x1024x1024) off7 S1x256x1024.size inb7) h7').squeeze S256x1024 hs7) (.dma qs) hsc)
            (.dma qr) hsrc hdst hsem) k) Q) := by
  subst hN hN' hn ho hj hd hqs hqr
  have hsS : (((Memref.whole cc0_scratch1).slice (Rect.unit (s := S3x1024x1024) off6 S1x256x1024.size inb6) h6').squeeze S256x1024 hs6).view.set
      = chunkS 3 1024 1024 (i.val / 4) (i.val % 4) :=
    (View.set_reshape _ _).trans ((View.set_slice_whole cc0_scratch1 _).trans (chunk_set _ _ h6 (inb := inb6)))
  have hsD : (((Memref.whole cc0_scratch2).slice (Rect.unit (s := S4x1024x1024) off7 S1x256x1024.size inb7) h7').squeeze S256x1024 hs7).view.set
      = chunkS 4 1024 1024 (ord (i.val / 4)) (i.val % 4) :=
    (View.set_reshape _ _).trans ((View.set_slice_whole cc0_scratch2 _).trans (chunk_set _ _ h7 (inb := inb7)))
  have hj : 256 * (i.val % 4) + 256 ≤ 1024 := by omega
  have hrd : View.read (Elt F) (((Memref.whole cc0_scratch2).slice (Rect.unit (s := S4x1024x1024) off7 S1x256x1024.size inb7) h7').squeeze S256x1024 hs7).view
        (xfC m (peer c (i.val / 4)))
      = View.read (Elt F) (((Memref.whole cc0_scratch1).slice (Rect.unit (s := S3x1024x1024) off6 S1x256x1024.size inb6) h6').squeeze S256x1024 hs6).view (x8C m c) :=
    funext fun x => ((stk_chunk (XF m (peer c (i.val / 4))) _ _ hj h7 _).trans (lift1_reshape _ _ x)).trans
      ((congrFun (congrArg (rowsOf 256 (i.val % 4) hj) (X8_eq m c (i.val / 4)).symm) x).trans
        ((stk_chunk (X8 m c) _ _ hj h6 _).trans (lift1_reshape _ _ x)).symm)
  unfold ow lnd src sndTok sntTok
  iintro ⟨#HR, Hs, ⟨%f, Hd⟩, ⟨%W, HO⟩, Ht, Htr, Ha⟩ Hk
  ihave Hs' := (Entails.of_eq (congrArg (fun S => ((((c : Thread nD τ).loc cc0_scratch1) ↦[S]{fullShare} x8C m c : sProp 𝕄))) hsS.symm)) $$ Hs
  ihave Hd' := (Entails.of_eq (congrArg (fun S => ((((peer c (i.val / 4) : Thread nD τ).loc cc0_scratch2) ↦[S]{fullShare} f : sProp 𝕄))) hsD.symm)) $$ Hd
  iapply (Rounds.wp_send_pointsTo 𝒱₀ ER (Rd m) (c : Thread nD τ) none (κ₁ := K (c, some (false, i))) (κ₂ := K (peer c (i.val / 4), some (true, i)))
    (r₁ := 0) (r₂ := 0) (d₁ := (0 : Fin 3)) (d₂ := (0 : Fin 3)) (fs := x8C m c) (fd := f)
    (by rw [duties_at m c (some (false, i))]; exact Finset.mem_singleton_self _)
    (by rw [duties_at m (peer c (i.val / 4)) (some (true, i))]; exact Finset.mem_singleton_self _)
    () () Nc rfl (amount_at m c (some (false, i)) 0) (amount_at m (peer c (i.val / 4)) (some (true, i)) 0) (OS c (11 - i.val)) (OS_peel c i) (W := W)
    (by
      rw [payload_at m c (some (false, i)) 0]
      exact Entails.of_eq (congrArg (fun S => ((((c : Thread nD τ).loc cc0_scratch1) ↦[S]{fullShare} x8C m c : sProp 𝕄))) hsS))
    (by
      rw [payload_at m (peer c (i.val / 4)) (some (true, i)) 0]
      show _ ⊢ rcvd m (peer c (i.val / 4)) i
      unfold rcvd
      refine (Entails.of_eq (pointsTo_congr (write_eq (((Memref.whole cc0_scratch2).slice (Rect.unit (s := S4x1024x1024) off7 S1x256x1024.size inb7) h7').squeeze S256x1024 hs7).view
        f (xfC m (peer c (i.val / 4))) _ hrd))).trans
        (Entails.of_eq (congrArg (fun S => ((((peer c (i.val / 4) : Thread nD τ).loc cc0_scratch2) ↦[S]{fullShare} xfC m (peer c (i.val / 4)) : sProp 𝕄))) hsD))))
    $$ [Hs' Hd' HO Ht Htr]
  · isplitr; · iapply (Recs_inv m K (c, some (false, i))); iexact HR
    isplitr; · iapply (Recs_inv m K (peer c (i.val / 4), some (true, i))); iexact HR
    isplitl [Hs']; · iexact Hs'
    isplitl [Hd']; · iexact Hd'
    isplitl [HO]; · iexact HO
    isplitl [Ht]; · iexact Ht
    isplitr; · iapply (Recs_reached m K (c, some (false, i))); iexact HR
    isplitl [Htr]; · iexact Htr
    iapply (Recs_reached m K (peer c (i.val / 4), some (true, i))); iexact HR
  iintro ⟨Hc, HO⟩
  iapply Hk
  isplitl [Hc Ha]
  · isplitl [Hc]; · iexact Hc
    iexact Ha
  iexists W; iexact HO

/-- The wait at a send cell or a receive cell, nothing owed any more. -/
theorem xferW {K : Dev nD × CK → ℕ} (b : Bool) {q : DmaSem sig} (hq : csem (some (b, i)) = .dma q)
    {sp sp' : Space} {s s' : Shape} {e e' : EltTy} {sr : Memref sig .tc sp' s' e'} {ds : Memref sig .tc sp s e}
    {hsrc : sr.view.WordExact} {hdst : ds.view.WordExact} {k : PUnit → Prog (TpuEff nD τ sig (Elt F) Λ₀ .tc) α}
    (hN : ds.view.dmaCredit = Nc) :
    iprop(Recs m K ∗ ow c (OS c 0) ∗ cred (tallyAt (kcell (c, some (b, i))) () Nc) ∗ atPos ER (kcell (c, some (b, i))) 0 ∅ 0)
      ⊢ iprop((ow c (OS c 0) ∗ semVal (kcell (c, some (b, i))) 0 ∗ payloadK m c 0 (some (some (b, i))) -∗ wpc c (k ⟨⟩) Q)
        -∗ wpc c (.op (.waitDma2 q sr ds hsrc hdst) k) Q) := by
  have h0 : OS c 0 = 0 := rfl
  rw [h0]
  have hc : kcell (c, some (b, i)) = ((c : Thread nD τ), .dma q) := Prod.ext rfl hq
  have hx := expect_xfer m c i b
  have hr := rest_xfer m c i b
  have hi := Recs_inv m K (c, some (b, i))
  rw [hc] at hx hr hi ⊢
  rw [← hN] at hx ⊢
  unfold ow
  iintro ⟨#HR, ⟨%W, HO⟩, Hc, Ha⟩ Hk
  iapply (Rounds.wp_wait_rest_token 𝒱₀ ER (Rd m) (c : Thread nD τ) none (κ := K (c, some (b, i)))
      (wpE_waitDma2_eq 𝒱₀ (c : Thread nD τ) none Set.univ) (Set.mem_univ _) () (O := 0) (W := W) (R := 0) (m := 0) (T := ∅)
      (by rw [Nat.zero_add, hx])) $$ [Hc HO Ha]
  · isplitr; · iapply hi; iexact HR
    isplitl [Hc]; · iexact Hc
    isplitl [HO]; · iexact HO
    isplitr; · rw [MayWait_zero]; iempintro
    iexact Ha
  iintro ⟨HO, Ha, -, Hpay⟩
  imod (Rounds.cell_close ER (Rd m) (Set.mem_univ (K (c, some (b, i)))) (fun h => h) (R := 0 + 1) (duties_later m ((c : Thread nD τ), .dma q))) $$ [Ha] with Hz
  · isplitr; · iapply hi; iexact HR
    iexact Ha
  ihave Hp := (Entails.of_eq hr) $$ Hpay
  iapply Hk
  isplitl [HO]; · iexists _; iexact HO
  isplitl [Hz]; · iexact Hz
  iexact Hp

/-- The wait for transfer `i` from its sender: the landed chunk. -/
theorem rcvW (s j : ℕ) (hs : ord (i.val / 4) = s) (hj : i.val % 4 = j) {K : Dev nD × CK → ℕ} {q : DmaSem sig} (hq : q = recvS i)
    {sp sp' : Space} {s₁ s₂ : Shape} {e e' : EltTy} {sr : Memref sig .tc sp' s₂ e'} {ds : Memref sig .tc sp s₁ e}
    {hsrc : sr.view.WordExact} {hdst : ds.view.WordExact} {k : PUnit → Prog (TpuEff nD τ sig (Elt F) Λ₀ .tc) α}
    (hN : ds.view.dmaCredit = Nc) :
    iprop(Recs m K ∗ ow c (OS c 0) ∗ rcvTok c i)
      ⊢ iprop((ow c (OS c 0) ∗ semVal (recvCell c i) 0 ∗ xfP c s j (xfC m c) -∗ wpc c (k ⟨⟩) Q)
        -∗ wpc c (.op (.waitDma2 q sr ds hsrc hdst) k) Q) := by
  subst hs hj
  exact xferW m c i true (by rw [hq]) hN

/-- The wait for one's own transfer `i`: the chunk sent. -/
theorem sndW {K : Dev nD × CK → ℕ} {q : DmaSem sig} (hq : q = sendS i)
    {sp sp' : Space} {s s' : Shape} {e e' : EltTy} {sr : Memref sig .tc sp' s' e'} {ds : Memref sig .tc sp s e}
    {hsrc : sr.view.WordExact} {hdst : ds.view.WordExact} {k : PUnit → Prog (TpuEff nD τ sig (Elt F) Λ₀ .tc) α}
    (hN : ds.view.dmaCredit = Nc) :
    iprop(Recs m K ∗ ow c (OS c 0) ∗ sntTok c i)
      ⊢ iprop((ow c (OS c 0) ∗ semVal (sendCell c i) 0 ∗ src m c i -∗ wpc c (k ⟨⟩) Q)
        -∗ wpc c (.op (.waitDma2 q sr ds hsrc hdst) k) Q) :=
  xferW m c i false (by rw [hq]) hN

/-! ## The copies in from `x` and the weights, and the copies out -/

/-- The rows of `x` for the device `r` places on. -/
abbrev a0P (r : ℕ) : sProp 𝕄 := ((c : Thread nD τ).loc main_arg0) ↦[rowS 4096 1024 1024 ((c.val + r) % 4)]{fullShare} A0 m c
/-- The rows of the weights for the device `r` places back. -/
abbrev a1P (r : ℕ) : sProp 𝕄 := ((c : Thread nD τ).loc main_arg1) ↦[rowS 4096 2048 1024 ((c.val + 4 - r) % 4)]{fullShare} A1 m c
/-- Row chunk `j` of the result. -/
abbrev a4P (j : ℕ) (f : Buf (Elt F) ((c : Thread nD τ).loc main_v1)) : sProp 𝕄 :=
  ((c : Thread nD τ).loc main_v1) ↦[rowS 1024 2048 256 j]{fullShare} f

/-- What one copy of rows of `x`, of the weights, and of a chunk of the result credits. -/
abbrev NX : ℕ := (View.whole cc0_scratch0 : View sig .tc .vmem _ _).ref.dmaCredit S1024x1024 .f32
abbrev NW : ℕ := (View.whole cc0_scratch3 : View sig .tc .vmem _ _).ref.dmaCredit S1024x2048 .f32
abbrev NO : ℕ := (View.whole main_v1 : View sig .tc .hbm _ _).ref.dmaCredit S256x2048 .f32

/-- The semaphores of the copies. -/
abbrev xlS (s : Fin 2) : DmaSem sig := (⟨2 + s.val, by have := s.isLt; omega⟩ : Fin 34)
abbrev wlS (s : Fin 2) : DmaSem sig := (⟨4 + s.val, by have := s.isLt; omega⟩ : Fin 34)
abbrev ocS (j : Fin 4) : DmaSem sig := (⟨6 + j.val, by have := j.isLt; omega⟩ : Fin 34)

/-- Copies under way: into slot `s` of the staging buffers, and out from row chunk `j` of the accumulator. -/
def xlF (s : Fin 2) (r : ℕ) : sProp 𝕄 := Flight EC (c : Thread nD τ) (.dma (xlS s)) () NX iprop(xsP c s.val (xsC m c r) ∗ a0P m c r)
def wlF (s : Fin 2) (r : ℕ) : sProp 𝕄 := Flight EC (c : Thread nD τ) (.dma (wlS s)) () NW iprop(wsP c s.val (wsC m c r) ∗ a1P m c r)
def ocF (j : Fin 4) : sProp 𝕄 := Flight EC (c : Thread nD τ) (.dma (ocS j)) () NO iprop(a4P c j.val (OUT m c) ∗ ovP c j.val (OUT m c))

theorem xl (s : Fin 2) (i r : ℕ) (hi : s.val = i) {q : DmaSem sig} (hq : q = xlS s) {f} {off off' : Fin _ → ℕ} (h : off = ![i, 0, 0]) (h' : off' = ![1024 * ((c.val + r) % 4), 0])
    {inb : ∀ a, off a + S1x1024x1024.size a ≤ S2x1024x1024.size a} {inb' : ∀ a, off' a + S1024x1024.size a ≤ S4096x1024.size a}
    {hu hu' hsq hsrc hdst hsem} {k : PUnit → Prog (TpuEff nD τ sig (Elt F) Λ₀ .tc) α} :
    iprop(a0P m c r ∗ xsP c i f ∗ semVal ((c : Thread nD τ), .dma (xlS s)) 0)
      ⊢ iprop((xlF m c s r -∗ wpc c (k ⟨⟩) Q)
        -∗ wpc c (.op (.enqueueDma ((Memref.whole main_arg0).slice (Rect.unit (s := S4096x1024) off' S1024x1024.size inb') hu')
            (.here (((Memref.whole cc0_scratch0).slice (Rect.unit (s := S2x1024x1024) off S1x1024x1024.size inb) hu).squeeze S1024x1024 hsq))
            (.dma q) hsrc hdst hsem) k) Q) := by
  subst hi hq
  unfold xlF
  exact ls c (ds := (((Memref.whole cc0_scratch0).slice (Rect.unit (s := S2x1024x1024) off S1x1024x1024.size inb) hu).squeeze S1024x1024 hsq))
    (sr := ((Memref.whole main_arg0).slice (Rect.unit (s := S4096x1024) off' S1024x1024.size inb') hu'))
    NX rfl (by decide : 0 < S1024x1024.numel)
    ((View.set_slice_whole main_arg0 _).trans (row_set 1024 _ (by decide) h' (inb := inb')))
    ((View.set_reshape _ _).trans ((View.set_slice_whole cc0_scratch0 _).trans (slot_set _ h (inb := inb))))
    (funext fun x => ((stk_slot (fun _ => xblk m c r) _ h _).trans (lift1_reshape _ _ x)).trans
      (rows_at (A0 m c) 1024 _ (rb_le _) h' x).symm)

theorem wlo (s : Fin 2) (i r : ℕ) (hi : s.val = i) {q : DmaSem sig} (hq : q = wlS s) {f} {off off' : Fin _ → ℕ} (h : off = ![i, 0, 0]) (h' : off' = ![1024 * ((c.val + 4 - r) % 4), 0])
    {inb : ∀ a, off a + S1x1024x2048.size a ≤ S2x1024x2048.size a} {inb' : ∀ a, off' a + S1024x2048.size a ≤ S4096x2048.size a}
    {hu hu' hsq hsrc hdst hsem} {k : PUnit → Prog (TpuEff nD τ sig (Elt F) Λ₀ .tc) α} :
    iprop(a1P m c r ∗ wsP c i f ∗ semVal ((c : Thread nD τ), .dma (wlS s)) 0)
      ⊢ iprop((wlF m c s r -∗ wpc c (k ⟨⟩) Q)
        -∗ wpc c (.op (.enqueueDma ((Memref.whole main_arg1).slice (Rect.unit (s := S4096x2048) off' S1024x2048.size inb') hu')
            (.here (((Memref.whole cc0_scratch3).slice (Rect.unit (s := S2x1024x2048) off S1x1024x2048.size inb) hu).squeeze S1024x2048 hsq))
            (.dma q) hsrc hdst hsem) k) Q) := by
  subst hi hq
  unfold wlF
  exact ls c (ds := (((Memref.whole cc0_scratch3).slice (Rect.unit (s := S2x1024x2048) off S1x1024x2048.size inb) hu).squeeze S1024x2048 hsq))
    (sr := ((Memref.whole main_arg1).slice (Rect.unit (s := S4096x2048) off' S1024x2048.size inb') hu'))
    NW rfl (by decide : 0 < S1024x2048.numel)
    ((View.set_slice_whole main_arg1 _).trans (row_set 1024 _ (by decide) h' (inb := inb')))
    ((View.set_reshape _ _).trans ((View.set_slice_whole cc0_scratch3 _).trans (slot_set _ h (inb := inb))))
    (funext fun x => ((stk_slot (fun _ => wblk m c r) _ h _).trans (lift1_reshape _ _ x)).trans
      (rows_at (A1 m c) 1024 _ (rb_le _) h' x).symm)

theorem oc (j : Fin 4) (i : ℕ) (hi : j.val = i) {q : DmaSem sig} (hq : q = ocS j) {f} {off off' : Fin _ → ℕ} (h : off = ![256 * i, 0]) (h' : off' = ![256 * i, 0])
    {inb : ∀ a, off a + S256x2048.size a ≤ S1024x2048.size a} {inb' : ∀ a, off' a + S256x2048.size a ≤ S1024x2048.size a}
    {hu hu' hsrc hdst hsem} {k : PUnit → Prog (TpuEff nD τ sig (Elt F) Λ₀ .tc) α} :
    iprop(ovP c i (OUT m c) ∗ a4P c i f ∗ semVal ((c : Thread nD τ), .dma (ocS j)) 0)
      ⊢ iprop((ocF m c j -∗ wpc c (k ⟨⟩) Q)
        -∗ wpc c (.op (.enqueueDma ((Memref.whole cc0_scratch5).slice (Rect.unit (s := S1024x2048) off' S256x2048.size inb') hu')
            (.here ((Memref.whole main_v1).slice (Rect.unit (s := S1024x2048) off S256x2048.size inb) hu))
            (.dma q) hsrc hdst hsem) k) Q) := by
  subst hi hq
  have hj : 256 * j.val + 256 ≤ 1024 := by have := j.isLt; omega
  unfold ocF
  exact ls c (ds := ((Memref.whole main_v1).slice (Rect.unit (s := S1024x2048) off S256x2048.size inb) hu))
    (sr := ((Memref.whole cc0_scratch5).slice (Rect.unit (s := S1024x2048) off' S256x2048.size inb') hu'))
    NO rfl (by decide : 0 < S256x2048.numel)
    ((View.set_slice_whole cc0_scratch5 _).trans (row_set 256 _ (by decide) h' (inb := inb')))
    ((View.set_slice_whole main_v1 _).trans (row_set 256 _ (by decide) h (inb := inb)))
    (funext fun x => (rows_at (OUT m c) 256 _ hj h x).trans (rows_at (OUT m c) 256 _ hj h' x).symm)

variable {m}

/-- The waits for these copies. -/
theorem xlW (s : Fin 2) (i r n : ℕ) (hi : s.val = i) {K : Dev nD × CK → ℕ} {q : DmaSem sig} (hq : q = xlS s) {sp sp' : Space} {s₁ s₂ : Shape} {e₁ e₂ : EltTy}
    {sr : Memref sig .tc sp' s₂ e₂} {ds : Memref sig .tc sp s₁ e₁} {hsrc : sr.view.WordExact} {hdst : ds.view.WordExact} (hN : ds.view.dmaCredit = NX)
    {k : PUnit → Prog (TpuEff nD τ sig (Elt F) Λ₀ .tc) α} :
    iprop(Recs m K ∗ xlF m c s r ∗ ow c (OS c n))
      ⊢ iprop(((xsP c i (xsC m c r) ∗ a0P m c r) ∗ semVal ((c : Thread nD τ), .dma (xlS s)) 0 ∗ ow c (OS c n) -∗ wpc c (k ⟨⟩) Q)
        -∗ wpc c (.op (.waitDma2 q sr ds hsrc hdst) k) Q) := by
  subst hi hq; unfold xlF
  exact wl m c NX hN n (by revert s; decide)

theorem wlW (s : Fin 2) (i r n : ℕ) (hi : s.val = i) {K : Dev nD × CK → ℕ} {q : DmaSem sig} (hq : q = wlS s) {sp sp' : Space} {s₁ s₂ : Shape} {e₁ e₂ : EltTy}
    {sr : Memref sig .tc sp' s₂ e₂} {ds : Memref sig .tc sp s₁ e₁} {hsrc : sr.view.WordExact} {hdst : ds.view.WordExact} (hN : ds.view.dmaCredit = NW)
    {k : PUnit → Prog (TpuEff nD τ sig (Elt F) Λ₀ .tc) α} :
    iprop(Recs m K ∗ wlF m c s r ∗ ow c (OS c n))
      ⊢ iprop(((wsP c i (wsC m c r) ∗ a1P m c r) ∗ semVal ((c : Thread nD τ), .dma (wlS s)) 0 ∗ ow c (OS c n) -∗ wpc c (k ⟨⟩) Q)
        -∗ wpc c (.op (.waitDma2 q sr ds hsrc hdst) k) Q) := by
  subst hi hq; unfold wlF
  exact wl m c NW hN n (by revert s; decide)

theorem ocW (j : Fin 4) (i : ℕ) (hi : j.val = i) {K : Dev nD × CK → ℕ} {q : DmaSem sig} (hq : q = ocS j) {sp sp' : Space} {s₁ s₂ : Shape} {e₁ e₂ : EltTy}
    {sr : Memref sig .tc sp' s₂ e₂} {ds : Memref sig .tc sp s₁ e₁} {hsrc : sr.view.WordExact} {hdst : ds.view.WordExact} (hN : ds.view.dmaCredit = NO)
    {k : PUnit → Prog (TpuEff nD τ sig (Elt F) Λ₀ .tc) α} :
    iprop(Recs m K ∗ ocF m c j ∗ ow c (OS c 0))
      ⊢ iprop(((a4P c i (OUT m c) ∗ ovP c i (OUT m c)) ∗ semVal ((c : Thread nD τ), .dma (ocS j)) 0 ∗ ow c (OS c 0) -∗ wpc c (k ⟨⟩) Q)
        -∗ wpc c (.op (.waitDma2 q sr ds hsrc hdst) k) Q) := by
  subst hi hq; unfold ocF
  exact wl m c NO hN 0 (by revert j; decide)

end

end Cert.KProof

end
-- ==== Proof.Pieces.lean ====
/-
# The buffers in pieces

Each buffer the devices work through is the separating conjunction of the pieces it is used in: slots, row chunks of a slot,
blocks of rows.
-/
module

public import proofs.«01_k».proof.Proof.Moves
public import Idealize.ShloMosaic.Lib.Ring

@[expose] public section

noncomputable section

namespace Cert.KProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (c : Dev nD)

section Generic
variable {ℓ : Loc nD τ sig} {n : ℕ} (S : Finset (Idx ℓ)) (I : Fin n → Finset (Idx ℓ)) (key : Idx ℓ → ℕ) (v : Fin n → ℕ)

/-- The elements of a set, sorted by a key that takes the values `v b` only, are the pieces' elements; -/
theorem pieces_union (hI : ∀ b x, x ∈ I b ↔ x ∈ S ∧ key x = v b) (hk : ∀ x ∈ S, ∃ b, key x = v b) : Finset.univ.biUnion I = S := by
  ext x
  rw [Finset.mem_biUnion]
  constructor
  · rintro ⟨b, -, hb⟩; exact ((hI b x).1 hb).1
  · intro hx; obtain ⟨b, hb⟩ := hk x hx; exact ⟨b, Finset.mem_univ _, (hI b x).2 ⟨hx, hb⟩⟩

/-- and pieces at different keys share none. -/
theorem pieces_disjoint (hI : ∀ b x, x ∈ I b ↔ x ∈ S ∧ key x = v b) (hv : Function.Injective v) (b b' : Fin n) (h : b ≠ b') :
    Disjoint (I b) (I b') :=
  Finset.disjoint_left.2 fun x hx hx' => h (hv (((hI b x).1 hx).2.symm.trans ((hI b' x).1 hx').2))

/-- So what is held on the set is held piece by piece. -/
theorem pieces (hI : ∀ b x, x ∈ I b ↔ x ∈ S ∧ key x = v b) (hk : ∀ x ∈ S, ∃ b, key x = v b) (hv : Function.Injective v)
    (f : Buf (Elt F) ℓ) : (ℓ ↦[S]{fullShare} f : sProp 𝕄) = bigSep Finset.univ fun b => ℓ ↦[I b]{fullShare} f :=
  Ring.pointsTo_sub_blocks I (pieces_disjoint S I key v hI hv) S (pieces_union S I key v hI hk) f

end Generic

theorem sep2 (P : Fin 2 → sProp 𝕄) : bigSep Finset.univ P = iprop(P 0 ∗ P 1) := by
  rw [bigSep_univ_eq_bigSepL [0, 1] (by decide) (by decide)]; simp only [bigSepL_cons_cons, bigSepL_singleton]; rfl
theorem sep3 (P : Fin 3 → sProp 𝕄) : bigSep Finset.univ P = iprop(P 0 ∗ P 1 ∗ P 2) := by
  rw [bigSep_univ_eq_bigSepL [0, 1, 2] (by decide) (by decide)]; simp only [bigSepL_cons_cons, bigSepL_singleton]; rfl
theorem sep4 (P : Fin 4 → sProp 𝕄) : bigSep Finset.univ P = iprop(P 0 ∗ P 1 ∗ P 2 ∗ P 3) := by
  rw [bigSep_univ_eq_bigSepL [0, 1, 2, 3] (by decide) (by decide)]; simp only [bigSepL_cons_cons, bigSepL_singleton]; rfl

section Shapes
variable {a b n h : ℕ}

theorem slot_key (i : Fin n) (x : (⟨3, ![n, a, b]⟩ : Shape).Idx) : x ∈ slotS n a b i.val ↔ x ∈ Finset.univ ∧ (x 0).val = i.val := by
  unfold slotS; rw [Finset.mem_filter]
theorem slot_all (x : (⟨3, ![n, a, b]⟩ : Shape).Idx) : ∃ i : Fin n, (x 0).val = i.val := ⟨⟨(x 0).val, (x 0).isLt⟩, rfl⟩
theorem chunk_key (d j : ℕ) (x : (⟨3, ![n, a, b]⟩ : Shape).Idx) :
    x ∈ chunkS n a b d j ↔ x ∈ slotS n a b d ∧ (x 1).val / 256 = j := by
  unfold slotS chunkS; rw [Finset.mem_filter, Finset.mem_filter]; tauto
theorem chunk_all (x : (⟨3, ![n, 1024, b]⟩ : Shape).Idx) : ∃ j : Fin 4, (x 1).val / 256 = j.val :=
  ⟨⟨(x 1).val / 256, by have : (x 1).val < 1024 := (x 1).isLt; omega⟩, rfl⟩
theorem row_key (k : ℕ) (x : (⟨2, ![a, b]⟩ : Shape).Idx) : x ∈ rowS a b h k ↔ x ∈ Finset.univ ∧ (x 0).val / h = k := by
  unfold rowS; rw [Finset.mem_filter]
theorem val_inj : Function.Injective (fun b : Fin n => b.val) := fun _ _ h => Fin.ext h

end Shapes

theorem xs_slots (f) : ((c : Thread nD τ).loc cc0_scratch0 ↦{fullShare} f : sProp 𝕄) = iprop(xsP c 0 f ∗ xsP c 1 f) :=
  (pieces (ℓ := (c : Thread nD τ).loc cc0_scratch0) _ (fun i : Fin 2 => slotS 2 1024 1024 i.val) (fun x => (x 0).val) (fun i => i.val)
    slot_key (fun x _ => slot_all x) val_inj f).trans (sep2 _)
theorem ws_slots (f) : ((c : Thread nD τ).loc cc0_scratch3 ↦{fullShare} f : sProp 𝕄) = iprop(wsP c 0 f ∗ wsP c 1 f) :=
  (pieces (ℓ := (c : Thread nD τ).loc cc0_scratch3) _ (fun i : Fin 2 => slotS 2 1024 2048 i.val) (fun x => (x 0).val) (fun i => i.val)
    slot_key (fun x _ => slot_all x) val_inj f).trans (sep2 _)
theorem x8_slots (f) : ((c : Thread nD τ).loc cc0_scratch1 ↦{fullShare} f : sProp 𝕄) = iprop(x8S c 0 f ∗ x8S c 1 f ∗ x8S c 2 f) :=
  (pieces (ℓ := (c : Thread nD τ).loc cc0_scratch1) _ (fun i : Fin 3 => slotS 3 1024 1024 i.val) (fun x => (x 0).val) (fun i => i.val)
    slot_key (fun x _ => slot_all x) val_inj f).trans (sep3 _)
theorem xf_slots (f) : ((c : Thread nD τ).loc cc0_scratch2 ↦{fullShare} f : sProp 𝕄) = iprop(xfS c 0 f ∗ xfS c 1 f ∗ xfS c 2 f ∗ xfS c 3 f) :=
  (pieces (ℓ := (c : Thread nD τ).loc cc0_scratch2) _ (fun i : Fin 4 => slotS 4 1024 1024 i.val) (fun x => (x 0).val) (fun i => i.val)
    slot_key (fun x _ => slot_all x) val_inj f).trans (sep4 _)
theorem w8_slots (f) : ((c : Thread nD τ).loc cc0_scratch4 ↦{fullShare} f : sProp 𝕄) = iprop(w8P c 0 f ∗ w8P c 1 f ∗ w8P c 2 f ∗ w8P c 3 f) :=
  (pieces (ℓ := (c : Thread nD τ).loc cc0_scratch4) _ (fun i : Fin 4 => slotS 4 1024 2048 i.val) (fun x => (x 0).val) (fun i => i.val)
    slot_key (fun x _ => slot_all x) val_inj f).trans (sep4 _)
theorem x8_chunks (o : ℕ) (f) : (x8S c o f : sProp 𝕄) = iprop(x8P c o 0 f ∗ x8P c o 1 f ∗ x8P c o 2 f ∗ x8P c o 3 f) :=
  (pieces (ℓ := (c : Thread nD τ).loc cc0_scratch1) _ (fun j : Fin 4 => chunkS 3 1024 1024 o j.val) (fun x => (x 1).val / 256) (fun i => i.val)
    (fun j => chunk_key o j.val) (fun x _ => chunk_all x) val_inj f).trans (sep4 _)
theorem xf_chunks (d : ℕ) (f) : (xfS c d f : sProp 𝕄) = iprop(xfP c d 0 f ∗ xfP c d 1 f ∗ xfP c d 2 f ∗ xfP c d 3 f) :=
  (pieces (ℓ := (c : Thread nD τ).loc cc0_scratch2) _ (fun j : Fin 4 => chunkS 4 1024 1024 d j.val) (fun x => (x 1).val / 256) (fun i => i.val)
    (fun j => chunk_key d j.val) (fun x _ => chunk_all x) val_inj f).trans (sep4 _)
theorem ov_rows (f) : (ovW c f : sProp 𝕄) = iprop(ovP c 0 f ∗ ovP c 1 f ∗ ovP c 2 f ∗ ovP c 3 f) :=
  (pieces (ℓ := (c : Thread nD τ).loc cc0_scratch5) _ (fun j : Fin 4 => rowS 1024 2048 256 j.val) (fun x => (x 0).val / 256) (fun i => i.val)
    (fun j => row_key j.val) (fun x _ => ⟨⟨(x 0).val / 256, by have : (x 0).val < 1024 := (x 0).isLt; omega⟩, rfl⟩) val_inj f).trans (sep4 _)
theorem a4_rows (f) : ((c : Thread nD τ).loc main_v1 ↦{fullShare} f : sProp 𝕄) = iprop(a4P c 0 f ∗ a4P c 1 f ∗ a4P c 2 f ∗ a4P c 3 f) :=
  (pieces (ℓ := (c : Thread nD τ).loc main_v1) _ (fun j : Fin 4 => rowS 1024 2048 256 j.val) (fun x => (x 0).val / 256) (fun i => i.val)
    (fun j => row_key j.val) (fun x _ => ⟨⟨(x 0).val / 256, by have : (x 0).val < 1024 := (x 0).isLt; omega⟩, rfl⟩) val_inj f).trans (sep4 _)
theorem a0_rows : ((c : Thread nD τ).loc main_arg0 ↦{fullShare} A0 m c : sProp 𝕄) = iprop(a0P m c 0 ∗ a0P m c 1 ∗ a0P m c 2 ∗ a0P m c 3) :=
  (pieces (ℓ := (c : Thread nD τ).loc main_arg0) _ (fun r : Fin 4 => rowS 4096 1024 1024 ((c.val + r.val) % 4)) (fun x => (x 0).val / 1024)
    (fun r => (c.val + r.val) % 4) (fun r => row_key _)
    (fun x _ => ⟨⟨((x 0).val / 1024 + 4 - c.val) % 4, Nat.mod_lt _ (by decide)⟩, by
      have : (x 0).val < 4096 := (x 0).isLt
      have hc : c.val < 4 := c.isLt
      show (x 0).val / 1024 = (c.val + ((x 0).val / 1024 + 4 - c.val) % 4) % 4
      omega⟩)
    (fun r r' h => Fin.ext (by have := r.isLt; have := r'.isLt; have h' : (c.val + r.val) % 4 = (c.val + r'.val) % 4 := h; omega)) _).trans (sep4 _)
theorem a1_rows : ((c : Thread nD τ).loc main_arg1 ↦{fullShare} A1 m c : sProp 𝕄) = iprop(a1P m c 0 ∗ a1P m c 1 ∗ a1P m c 2 ∗ a1P m c 3) :=
  (pieces (ℓ := (c : Thread nD τ).loc main_arg1) _ (fun r : Fin 4 => rowS 4096 2048 1024 ((c.val + 4 - r.val) % 4)) (fun x => (x 0).val / 1024)
    (fun r => (c.val + 4 - r.val) % 4) (fun r => row_key _)
    (fun x _ => ⟨⟨(c.val + 4 - (x 0).val / 1024) % 4, Nat.mod_lt _ (by decide)⟩, by
      have : (x 0).val < 4096 := (x 0).isLt
      have hc : c.val < 4 := c.isLt
      show (x 0).val / 1024 = (c.val + 4 - (c.val + 4 - (x 0).val / 1024) % 4) % 4
      omega⟩)
    (fun r r' h => Fin.ext (by
      have := r.isLt; have := r'.isLt; have hc : c.val < 4 := c.isLt
      have h' : (c.val + 4 - r.val) % 4 = (c.val + 4 - r'.val) % 4 := h; omega)) _).trans (sep4 _)

/-- Two slots, each at contents of its own, join to the buffer at some contents. -/
theorem xs_join (f g) : iprop(xsP c 0 f ∗ xsP c 1 g) ⊢ (iprop(∃ k, (c : Thread nD τ).loc cc0_scratch0 ↦{fullShare} k) : sProp 𝕄) := by
  refine BIBase.Entails.trans ?_ (Ring.pointsTo_blocks_join_exists (ℓ := (c : Thread nD τ).loc cc0_scratch0) (fun i : Fin 2 => slotS 2 1024 1024 i.val)
    (pieces_disjoint Finset.univ _ (fun x => (x 0).val) _ slot_key val_inj)
    (pieces_union Finset.univ _ (fun x => (x 0).val) _ slot_key (fun x _ => slot_all x)) f)
  rw [sep2]
  iintro ⟨H, H'⟩
  isplitl [H]
  · iexists f; iexact H
  · iexists g; iexact H'
theorem ws_join (f g) : iprop(wsP c 0 f ∗ wsP c 1 g) ⊢ (iprop(∃ k, (c : Thread nD τ).loc cc0_scratch3 ↦{fullShare} k) : sProp 𝕄) := by
  refine BIBase.Entails.trans ?_ (Ring.pointsTo_blocks_join_exists (ℓ := (c : Thread nD τ).loc cc0_scratch3) (fun i : Fin 2 => slotS 2 1024 2048 i.val)
    (pieces_disjoint Finset.univ _ (fun x => (x 0).val) _ slot_key val_inj)
    (pieces_union Finset.univ _ (fun x => (x 0).val) _ slot_key (fun x _ => slot_all x)) f)
  rw [sep2]
  iintro ⟨H, H'⟩
  isplitl [H]
  · iexists f; iexact H
  · iexists g; iexact H'

/-- A converted slot of the send staging buffer is the four chunks to be sent. -/
theorem x8_split (o : Fin 3) :
    x8S c o.val (x8C m c) = iprop(src m c (tr o 0) ∗ src m c (tr o 1) ∗ src m c (tr o 2) ∗ src m c (tr o 3)) := by
  fin_cases o <;> exact x8_chunks c _ _

/-- A slot of the gathered buffer, whatever it holds, is what the duty of the device it takes from hands over. -/
theorem barPay_of (o : Fin 3) (f : Buf (Elt F) ((c : Thread nD τ).loc cc0_scratch2)) : xfS c (ord o.val) f ⊢ barPay (bwd c (ord o.val)) o := by
  have h (j : Fin 4) : xfP c (ord o.val) j.val f ⊢ lnd (bwd c (ord o.val)) (tr o j) := by
    have hp : peer (bwd c (ord o.val)) ((tr o j).val / 4) = c := by
      have e : (tr o j).val / 4 = o.val := by have := j.isLt; show (4 * o.val + j.val) / 4 = _; omega
      rw [e]; exact fwd_bwd c _
    have e : (tr o j).val / 4 = o.val := by have := j.isLt; show (4 * o.val + j.val) / 4 = _; omega
    have e' : (tr o j).val % 4 = j.val := by have := j.isLt; show (4 * o.val + j.val) % 4 = _; omega
    unfold lnd
    rw [hp, e, e']
    iintro H; iexists f; iexact H
  rw [xf_chunks]; unfold barPay
  exact BIClass.sep_mono (h 0) (BIClass.sep_mono (h 1) (BIClass.sep_mono (h 2) (h 3)))

end Cert.KProof

end
-- ==== Proof.PartsA.lean ====
/-
# The kernel's first parts: everything is sent off

Each printed part of the kernel is executed at a device `c`, from what it needs to what it leaves. These are the parts up to
the last of the twelve transfers started.
-/
module

public import proofs.«01_k».proof.Proof.Pieces

@[expose] public section

noncomputable section

namespace Cert.KProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-- A block of `x` as loaded, converted and laid out as a slot again. -/
theorem pay_x (r : ℕ) :
    shapeCast S1x1024x1024 (truncf .fp8e4m3 (shapeCast S1024x1024 (lift1 (xblk m c r)) shapeCasts_S1x1024x1024_S1024x1024) bitsLt_fp8e4m3_f32)
        shapeCasts_S1024x1024_S1x1024x1024
      = lift1 (truncf .fp8e4m3 (xblk m c r) bitsLt_fp8e4m3_f32) :=
  (lift1_cast _ _).trans (congrArg (fun M => lift1 (truncf .fp8e4m3 M bitsLt_fp8e4m3_f32)) (cast_lift1 _ _))

/-- The devices the three signals go to. -/
theorem dev1 (h : k0_dev1 c < nD) : (⟨k0_dev1 c, h⟩ : Dev nD) = bwd c (ord 1) :=
  Fin.ext ((k0_dev1_eq c).trans (by have : c.val < 4 := c.isLt; show (c.val + 1) % 4 = (c.val + 4 - 3 % 4) % 4; omega))
theorem dev2 (h : k0_dev2 c < nD) : (⟨k0_dev2 c, h⟩ : Dev nD) = bwd c (ord 2) :=
  Fin.ext ((k0_dev2_eq c).trans (by have : c.val < 4 := c.isLt; show (c.val + 2) % 4 = (c.val + 4 - 2 % 4) % 4; omega))
theorem dev3 (h : k0_dev3 c < nD) : (⟨k0_dev3 c, h⟩ : Dev nD) = bwd c (ord 0) :=
  Fin.ext ((k0_dev3_eq c).trans (by have : c.val < 4 := c.isLt; show (c.val + 3) % 4 = (c.val + 4 - 1 % 4) % 4; omega))

/-- What device `c` needs to pay duty `o`: the duty's token and what the duty hands over. -/
def sigTok (o : Fin 3) : sProp 𝕄 := iprop(dutyTok ER (barCell (bwd c (ord o.val))) 0 o ∗ barPay (bwd c (ord o.val)) o)
/-- What device `c` needs to wait at its barrier cell. -/
def barTok : sProp 𝕄 := iprop(cred (tallyAt (barCell c) () 3) ∗ atPos ER (barCell c) 0 ∅ 0)

/-- The first two copies in and the first signal. -/
theorem part1 {Q : _ → sProp 𝕄} :
    iprop(Recs m K ∗ a0P m c 1 ∗ a0P m c 3 ∗ (∃ f, xsP c 0 f) ∗ (∃ f, xsP c 1 f) ∗ semVal ((c : Thread nD τ), .dma (xlS 0)) 0 ∗ semVal ((c : Thread nD τ), .dma (xlS 1)) 0 ∗ ow c (O₀ c) ∗ sigTok c 1
        ∗ (xlF m c 0 1 ∗ xlF m c 1 3 ∗ ow c (O₁ c) -∗ ∀ v2, Q ⟨c, v2, SemArray.scalar (sig.barrier 0 rfl)⟩))
      ⊢ wpc c (k0_part1 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10) Q := by
  rw [k0_part1_eq_skeleton]; unfold k0_part1_skel
  simp only [wpc, semSignalWord, semWaitWord, smemLoad, smemLoadElt, Prog.lift, Prog.bind_op, Prog.bind_ret, Prog.pure_eq_ret, wp_deviceId]
  iintro ⟨#HR, Ha1, Ha3, ⟨%_, Hx0⟩, ⟨%_, Hx1⟩, Hv0, Hv1, HO, Hsg1, Hpost⟩
  iapply (xl m c 0 0 1 rfl rfl rfl (k0_off1_eq c 1)) $$ [Ha1 Hx0 Hv0]; · iframe Ha1 Hx0 Hv0
  iintro HF0
  iapply (xl m c 1 1 3 rfl rfl rfl (k0_off1_eq c 3)) $$ [Ha3 Hx1 Hv1]; · iframe Ha3 Hx1 Hv1
  iintro HF1
  unfold sigTok; icases Hsg1 with ⟨Htk, Hpy⟩
  iapply (sig' m c (bwd c (ord 1)) 1 (dev1 c _) rfl (O₁ c) rfl) $$ [HO Htk Hpy]; · iframe HR HO Htk Hpy
  iintro HO
  iapply (ret c)
  iapply Hpost $$ [HF0 HF1 HO]
  · iframe HF0 HF1 HO

/-- The other signals, the barrier, and the first block converted. -/
theorem part2 (v2 : BitVec 32) {Q : _ → sProp 𝕄} :
    iprop(Recs m K ∗ ow c (O₁ c) ∗ sigTok c 2 ∗ sigTok c 0 ∗ barTok c ∗ xlF m c 0 1 ∗ (∃ f, x8S c 0 f)
        ∗ (ow c (OS c 12) ∗ semVal (barCell c) 0 ∗ barPay c 0 ∗ barPay c 1 ∗ barPay c 2 ∗ xsP c 0 (xsC m c 1) ∗ a0P m c 1 ∗ semVal ((c : Thread nD τ), .dma (xlS 0)) 0 ∗ x8S c 0 (x8C m c) -∗ ∀ v, Q v))
      ⊢ wpc c (k0_part2 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v2 (SemArray.scalar (sig.barrier 0 rfl))) Q := by
  rw [k0_part2_eq_skeleton]; unfold k0_part2_skel
  simp only [wpc, semSignalWord, semWaitWord, smemLoad, smemLoadElt, Prog.lift, Prog.bind_op, Prog.bind_ret, Prog.pure_eq_ret, wp_deviceId]
  iintro ⟨#HR, HO, Hsg2, Hsg0, Hbt, HF0, ⟨%_, He0⟩, Hpost⟩
  unfold sigTok; icases Hsg2 with ⟨Htk, Hpy⟩
  iapply (sig' m c (bwd c (ord 2)) 2 (dev2 c _) rfl (O₂ c) rfl) $$ [HO Htk Hpy]; · iframe HR HO Htk Hpy
  iintro HO
  icases Hsg0 with ⟨Htk, Hpy⟩
  iapply (sig' m c (bwd c (ord 0)) 0 (dev3 c _) rfl (OS c 12) rfl) $$ [HO Htk Hpy]; · iframe HR HO Htk Hpy
  iintro HO
  unfold barTok; icases Hbt with ⟨Hbc, Hba⟩
  iapply (barW m c rfl) $$ [HO Hbc Hba]; · iframe HR HO Hbc Hba
  iintro ⟨HO, Hbv, Hbp0, Hbp1, Hbp2⟩
  iapply (xlW (m := m) c 0 0 1 12 rfl rfl rfl) $$ [HF0 HO]; · iframe HR HF0 HO
  iintro ⟨⟨Hx0, Ha1⟩, Hv0, HO⟩
  iapply (ld_xs (m := m) c 0 1 rfl) $$ Hx0; iintro Hx0
  iapply (ld_x8' c 0 rfl) $$ He0; iintro He0
  iapply (st_x8 c (X8 m c) 0 rfl (pay_x m c 1)) $$ He0; iintro He0
  iapply (ret c)
  iapply Hpost $$ [HO Hbv Hbp0 Hbp1 Hbp2 Hx0 Ha1 Hv0 He0]
  · iframe HO Hbv Hbp0 Hbp1 Hbp2 Hx0 Ha1 Hv0 He0

/-- Transfers 0 to 2. -/
theorem part3 (v2 : BitVec 32) {Q : _ → sProp 𝕄} :
    iprop(Recs m K ∗ ow c (OS c 12) ∗ src m c 0 ∗ lnd c 0 ∗ sndTok c 0 ∗ src m c 1 ∗ lnd c 1 ∗ sndTok c 1 ∗ src m c 2 ∗ lnd c 2 ∗ sndTok c 2
        ∗ (ow c (OS c 9) ∗ sntTok c 0 ∗ sntTok c 1 ∗ sntTok c 2 -∗ ∀ v, Q v))
      ⊢ wpc c (k0_part3 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v2) Q := by
  rw [k0_part3_eq_skeleton]; unfold k0_part3_skel
  simp only [wpc, semSignalWord, semWaitWord, smemLoad, smemLoadElt, Prog.lift, Prog.bind_op, Prog.bind_ret, Prog.pure_eq_ret, wp_deviceId]
  iintro ⟨#HR, HO, Hs0, Hl0, Ht0, Hs1, Hl1, Ht1, Hs2, Hl2, Ht2, Hpost⟩
  iapply (snd m c 0 12 11 rfl rfl (Fin.ext (k0_dev4_eq c)) rfl rfl rfl rfl rfl rfl rfl) $$ [Hs0 Hl0 HO Ht0]; · iframe HR Hs0 Hl0 HO Ht0
  iintro ⟨Hn0, HO⟩
  iapply (snd m c 1 11 10 rfl rfl (Fin.ext (k0_dev5_eq c)) rfl rfl rfl rfl rfl rfl rfl) $$ [Hs1 Hl1 HO Ht1]; · iframe HR Hs1 Hl1 HO Ht1
  iintro ⟨Hn1, HO⟩
  iapply (snd m c 2 10 9 rfl rfl (Fin.ext (k0_dev6_eq c)) rfl rfl rfl rfl rfl rfl rfl) $$ [Hs2 Hl2 HO Ht2]; · iframe HR Hs2 Hl2 HO Ht2
  iintro ⟨Hn2, HO⟩
  iapply (ret c)
  iapply Hpost $$ [HO Hn0 Hn1 Hn2]
  · iframe HO Hn0 Hn1 Hn2

/-- Transfer 3, the third copy in, the second block converted. -/
theorem part4 (v2 v80 : BitVec 32) {Q : _ → sProp 𝕄} :
    iprop(Recs m K ∗ ow c (OS c 9) ∗ src m c 3 ∗ lnd c 3 ∗ sndTok c 3 ∗ a0P m c 2 ∗ xsP c 0 (xsC m c 1) ∗ semVal ((c : Thread nD τ), .dma (xlS 0)) 0 ∗ xlF m c 1 3 ∗ (∃ f, x8S c 1 f)
        ∗ (ow c (OS c 8) ∗ sntTok c 3 ∗ xlF m c 0 2 ∗ xsP c 1 (xsC m c 3) ∗ a0P m c 3 ∗ semVal ((c : Thread nD τ), .dma (xlS 1)) 0 ∗ x8S c 1 (x8C m c) -∗ ∀ v, Q v))
      ⊢ wpc c (k0_part4 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v2 v80) Q := by
  rw [k0_part4_eq_skeleton]; unfold k0_part4_skel
  simp only [wpc, semSignalWord, semWaitWord, smemLoad, smemLoadElt, Prog.lift, Prog.bind_op, Prog.bind_ret, Prog.pure_eq_ret, wp_deviceId]
  iintro ⟨#HR, HO, Hs3, Hl3, Ht3, Ha2, Hx0, Hv0, HF1, ⟨%_, He1⟩, Hpost⟩
  iapply (snd m c 3 9 8 rfl rfl (Fin.ext (k0_dev7_eq c)) rfl rfl rfl rfl rfl rfl rfl) $$ [Hs3 Hl3 HO Ht3]; · iframe HR Hs3 Hl3 HO Ht3
  iintro ⟨Hn3, HO⟩
  iapply (xl m c 0 0 2 rfl rfl rfl (k0_off1_eq c 2)) $$ [Ha2 Hx0 Hv0]; · iframe Ha2 Hx0 Hv0
  iintro HF0
  iapply (xlW (m := m) c 1 1 3 8 rfl rfl rfl) $$ [HF1 HO]; · iframe HR HF1 HO
  iintro ⟨⟨Hx1, Ha3⟩, Hv1, HO⟩
  iapply (ld_xs (m := m) c 1 3 rfl) $$ Hx1; iintro Hx1
  iapply (ld_x8' c 1 rfl) $$ He1; iintro He1
  iapply (st_x8 c (X8 m c) 1 rfl (pay_x m c 3)) $$ He1; iintro He1
  iapply (ret c)
  iapply Hpost $$ [HO Hn3 HF0 Hx1 Ha3 Hv1 He1]
  · iframe HO Hn3 HF0 Hx1 Ha3 Hv1 He1

/-- Transfers 4 and 5. -/
theorem part5 (v2 c3 : BitVec 32) {Q : _ → sProp 𝕄} :
    iprop(Recs m K ∗ ow c (OS c 8) ∗ src m c 4 ∗ lnd c 4 ∗ sndTok c 4 ∗ src m c 5 ∗ lnd c 5 ∗ sndTok c 5
        ∗ (ow c (OS c 6) ∗ sntTok c 4 ∗ sntTok c 5 -∗ ∀ v, Q v))
      ⊢ wpc c (k0_part5 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v2 c3) Q := by
  rw [k0_part5_eq_skeleton]; unfold k0_part5_skel
  simp only [wpc, semSignalWord, semWaitWord, smemLoad, smemLoadElt, Prog.lift, Prog.bind_op, Prog.bind_ret, Prog.pure_eq_ret, wp_deviceId]
  iintro ⟨#HR, HO, Hs4, Hl4, Ht4, Hs5, Hl5, Ht5, Hpost⟩
  iapply (snd m c 4 8 7 rfl rfl (Fin.ext (k0_dev8_eq c)) rfl rfl rfl rfl rfl rfl rfl) $$ [Hs4 Hl4 HO Ht4]; · iframe HR Hs4 Hl4 HO Ht4
  iintro ⟨Hn4, HO⟩
  iapply (snd m c 5 7 6 rfl rfl (Fin.ext (k0_dev9_eq c)) rfl rfl rfl rfl rfl rfl rfl) $$ [Hs5 Hl5 HO Ht5]; · iframe HR Hs5 Hl5 HO Ht5
  iintro ⟨Hn5, HO⟩
  iapply (ret c)
  iapply Hpost $$ [HO Hn4 Hn5]
  · iframe HO Hn4 Hn5

/-- Transfers 6 and 7, and the device's own rows copied in. -/
theorem part6 (v2 v136 c0 : BitVec 32) {Q : _ → sProp 𝕄} :
    iprop(Recs m K ∗ ow c (OS c 6) ∗ src m c 6 ∗ lnd c 6 ∗ sndTok c 6 ∗ src m c 7 ∗ lnd c 7 ∗ sndTok c 7 ∗ a0P m c 0 ∗ xsP c 1 (xsC m c 3) ∗ semVal ((c : Thread nD τ), .dma (xlS 1)) 0
        ∗ (ow c (OS c 4) ∗ sntTok c 6 ∗ sntTok c 7 ∗ xlF m c 1 0 -∗ ∀ v, Q v))
      ⊢ wpc c (k0_part6 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v2 v136 c0) Q := by
  rw [k0_part6_eq_skeleton]; unfold k0_part6_skel
  simp only [wpc, semSignalWord, semWaitWord, smemLoad, smemLoadElt, Prog.lift, Prog.bind_op, Prog.bind_ret, Prog.pure_eq_ret, wp_deviceId]
  iintro ⟨#HR, HO, Hs6, Hl6, Ht6, Hs7, Hl7, Ht7, Ha0, Hx1, Hv1, Hpost⟩
  iapply (snd m c 6 6 5 rfl rfl (Fin.ext (k0_dev10_eq c)) rfl rfl rfl rfl rfl rfl rfl) $$ [Hs6 Hl6 HO Ht6]; · iframe HR Hs6 Hl6 HO Ht6
  iintro ⟨Hn6, HO⟩
  iapply (snd m c 7 5 4 rfl rfl (Fin.ext (k0_dev11_eq c)) rfl rfl rfl rfl rfl rfl rfl) $$ [Hs7 Hl7 HO Ht7]; · iframe HR Hs7 Hl7 HO Ht7
  iintro ⟨Hn7, HO⟩
  iapply (xl m c 1 1 0 rfl rfl rfl (k0_off1_eq c 0)) $$ [Ha0 Hx1 Hv1]; · iframe Ha0 Hx1 Hv1
  iintro HF1
  iapply (ret c)
  iapply Hpost $$ [HO Hn6 Hn7 HF1]
  · iframe HO Hn6 Hn7 HF1

/-- The third block converted, transfer 8. -/
theorem part7 (v2 : BitVec 32) {Q : _ → sProp 𝕄} :
    iprop(Recs m K ∗ ow c (OS c 4) ∗ xlF m c 0 2 ∗ (∃ f, x8S c 2 f) ∗ lnd c 8 ∗ sndTok c 8
        ∗ (ow c (OS c 3) ∗ sntTok c 8 ∗ xsP c 0 (xsC m c 2) ∗ a0P m c 2 ∗ semVal ((c : Thread nD τ), .dma (xlS 0)) 0 ∗ src m c 9 ∗ src m c 10 ∗ src m c 11 -∗ ∀ v, Q v))
      ⊢ wpc c (k0_part7 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v2) Q := by
  rw [k0_part7_eq_skeleton]; unfold k0_part7_skel
  simp only [wpc, semSignalWord, semWaitWord, smemLoad, smemLoadElt, Prog.lift, Prog.bind_op, Prog.bind_ret, Prog.pure_eq_ret, wp_deviceId]
  iintro ⟨#HR, HO, HF0, ⟨%_, He2⟩, Hl8, Ht8, Hpost⟩
  iapply (xlW (m := m) c 0 0 2 4 rfl rfl rfl) $$ [HF0 HO]; · iframe HR HF0 HO
  iintro ⟨⟨Hx0, Ha2⟩, Hv0, HO⟩
  iapply (ld_xs (m := m) c 0 2 rfl) $$ Hx0; iintro Hx0
  iapply (ld_x8' c 2 rfl) $$ He2; iintro He2
  iapply (st_x8 c (X8 m c) 2 rfl (pay_x m c 2)) $$ He2; iintro He2
  ihave Hsr := (show x8S c 2 (stk (X8 m c)) ⊢ iprop(src m c 8 ∗ src m c 9 ∗ src m c 10 ∗ src m c 11) from Entails.of_eq (x8_split m c 2)) $$ He2; icases Hsr with ⟨Hs8, Hs9, Hs10, Hs11⟩
  iapply (snd m c 8 4 3 rfl rfl (Fin.ext (k0_dev12_eq c)) rfl rfl rfl rfl rfl rfl rfl) $$ [Hs8 Hl8 HO Ht8]; · iframe HR Hs8 Hl8 HO Ht8
  iintro ⟨Hn8, HO⟩
  iapply (ret c)
  iapply Hpost $$ [HO Hn8 Hx0 Ha2 Hv0 Hs9 Hs10 Hs11]
  · iframe HO Hn8 Hx0 Ha2 Hv0 Hs9 Hs10 Hs11

/-- Transfers 9 to 11. -/
theorem part8 (v2 : BitVec 32) {Q : _ → sProp 𝕄} :
    iprop(Recs m K ∗ ow c (OS c 3) ∗ src m c 9 ∗ lnd c 9 ∗ sndTok c 9 ∗ src m c 10 ∗ lnd c 10 ∗ sndTok c 10 ∗ src m c 11 ∗ lnd c 11 ∗ sndTok c 11
        ∗ (ow c (OS c 0) ∗ sntTok c 9 ∗ sntTok c 10 ∗ sntTok c 11 -∗ ∀ v, Q v))
      ⊢ wpc c (k0_part8 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v2) Q := by
  rw [k0_part8_eq_skeleton]; unfold k0_part8_skel
  simp only [wpc, semSignalWord, semWaitWord, smemLoad, smemLoadElt, Prog.lift, Prog.bind_op, Prog.bind_ret, Prog.pure_eq_ret, wp_deviceId]
  iintro ⟨#HR, HO, Hs9, Hl9, Ht9, Hs10, Hl10, Ht10, Hs11, Hl11, Ht11, Hpost⟩
  iapply (snd m c 9 3 2 rfl rfl (Fin.ext (k0_dev13_eq c)) rfl rfl rfl rfl rfl rfl rfl) $$ [Hs9 Hl9 HO Ht9]; · iframe HR Hs9 Hl9 HO Ht9
  iintro ⟨Hn9, HO⟩
  iapply (snd m c 10 2 1 rfl rfl (Fin.ext (k0_dev14_eq c)) rfl rfl rfl rfl rfl rfl rfl) $$ [Hs10 Hl10 HO Ht10]; · iframe HR Hs10 Hl10 HO Ht10
  iintro ⟨Hn10, HO⟩
  iapply (snd m c 11 1 0 rfl rfl (Fin.ext (k0_dev15_eq c)) rfl rfl rfl rfl rfl rfl rfl) $$ [Hs11 Hl11 HO Ht11]; · iframe HR Hs11 Hl11 HO Ht11
  iintro ⟨Hn11, HO⟩
  iapply (ret c)
  iapply Hpost $$ [HO Hn9 Hn10 Hn11]
  · iframe HO Hn9 Hn10 Hn11

end Cert.KProof

end
-- ==== Proof.PartsB.lean ====
/-
# The parts of the kernel that convert the weights

The device's own rows and the four blocks of weights are converted, the accumulator is started.
-/
module

public import proofs.«01_k».proof.Proof.PartsA

@[expose] public section

noncomputable section

namespace Cert.KProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-- A block of the weights as loaded, converted and laid out as a slot again. -/
theorem pay_w (r : ℕ) :
    shapeCast S1x1024x2048 (truncf .fp8e4m3 (shapeCast S1024x2048 (lift1 (wblk m c r)) shapeCasts_S1x1024x2048_S1024x2048) bitsLt_fp8e4m3_f32)
        shapeCasts_S1024x2048_S1x1024x2048
      = lift1 (W8 m c r) :=
  (lift1_cast _ _).trans (congrArg (fun M => lift1 (truncf .fp8e4m3 M bitsLt_fp8e4m3_f32)) (cast_lift1 _ _))

/-- The device's own rows, converted. -/
theorem pay_x0 : k0_pay4 (lift1 (xblk m c 0)) = lift1 (XF m c 0) :=
  (pay_x m c 0).trans (congrArg lift1 (XF_zero m c))

/-- The first product. -/
theorem pay_O0 : k0_pay6 (lift1 (XF m c 0)) (lift1 (W8 m c 0)) = O0 m c := by
  unfold k0_pay6 O0; dsimp only
  rw [cast_lift1, cast_lift1]

/-- A scale, read from its buffer of one word. -/
theorem one_word (A : S1.Idx → F .f32) (x y : S1.Idx) : A x = A y :=
  congrArg A (funext fun a => by
    match a with
    | ⟨0, _⟩ => exact Fin.ext (by have h : (x 0).val < 1 := (x 0).isLt; have h' : (y 0).val < 1 := (y 0).isLt; show (x 0).val = (y 0).val; omega))

theorem ld_s0 {α : Type} {Q : α → sProp 𝕄} {r : Rect S1} {hl} {k : (r.shape.Idx → Elt F .f32) → Prog (TpuEff nD τ sig (Elt F) Λ₀ .tc) α} :
    ((c : Thread nD τ).loc cc0_stg0_0 ↦{fullShare} A2 m c)
      ⊢ iprop((((c : Thread nD τ).loc cc0_stg0_0 ↦{fullShare} A2 m c) -∗ wpc c (k (fun _ => A2 m c (ix1 (0 : Fin 1)))) Q)
        -∗ wpc c (.op (.load (Memref.whole cc0_stg0_0) r.toLoadRect hl) k) Q) :=
  ld c (mr := Memref.whole cc0_stg0_0) (r := r) (S := Finset.univ) (f := A2 m c) (k := k) (v := fun _ => A2 m c (ix1 (0 : Fin 1)))
    (Finset.subset_univ _) (funext fun y => one_word (A2 m c) _ _)
theorem ld_s1 {α : Type} {Q : α → sProp 𝕄} {r : Rect S1} {hl} {k : (r.shape.Idx → Elt F .f32) → Prog (TpuEff nD τ sig (Elt F) Λ₀ .tc) α} :
    ((c : Thread nD τ).loc cc0_stg1_0 ↦{fullShare} A3 m c)
      ⊢ iprop((((c : Thread nD τ).loc cc0_stg1_0 ↦{fullShare} A3 m c) -∗ wpc c (k (fun _ => A3 m c (ix1 (0 : Fin 1)))) Q)
        -∗ wpc c (.op (.load (Memref.whole cc0_stg1_0) r.toLoadRect hl) k) Q) :=
  ld c (mr := Memref.whole cc0_stg1_0) (r := r) (S := Finset.univ) (f := A3 m c) (k := k) (v := fun _ => A3 m c (ix1 (0 : Fin 1)))
    (Finset.subset_univ _) (funext fun y => one_word (A3 m c) _ _)

/-- The first weights copied in, the device's own rows converted. -/
theorem part9 (v2 : BitVec 32) {Q : _ → sProp 𝕄} :
    iprop(Recs m K ∗ ow c (OS c 0) ∗ a1P m c 0 ∗ (∃ f, wsP c 0 f) ∗ semVal ((c : Thread nD τ), .dma (wlS 0)) 0 ∗ xlF m c 1 0 ∗ (∃ f, xfS c 0 f)
        ∗ (ow c (OS c 0) ∗ wlF m c 0 0 ∗ xsP c 1 (xsC m c 0) ∗ a0P m c 0 ∗ semVal ((c : Thread nD τ), .dma (xlS 1)) 0 ∗ xfS c 0 (xfC m c) -∗ Q ⟨⟩))
      ⊢ wpc c (k0_part9 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v2) Q := by
  rw [k0_part9_eq_skeleton]; unfold k0_part9_skel
  simp only [wpc, semSignalWord, semWaitWord, smemLoad, smemLoadElt, Prog.lift, Prog.bind_op, Prog.bind_ret, Prog.pure_eq_ret, wp_deviceId]
  iintro ⟨#HR, HO, Hb0, ⟨%_, Hw0⟩, Hu0, HF1, ⟨%_, Hf⟩, Hpost⟩
  iapply (wlo m c 0 0 0 rfl rfl rfl (k0_off2_eq c 0)) $$ [Hb0 Hw0 Hu0]; · iframe Hb0 Hw0 Hu0
  iintro HG0
  iapply (xlW (m := m) c 1 1 0 0 rfl rfl rfl) $$ [HF1 HO]; · iframe HR HF1 HO
  iintro ⟨⟨Hx1, Ha0⟩, Hv1, HO⟩
  iapply (ld_xs (m := m) c 1 0 rfl) $$ Hx1; iintro Hx1
  iapply (ld_xf' c 0 rfl) $$ Hf; iintro Hf
  iapply (st_xf c (XF m c) 0 rfl (pay_x0 m c)) $$ Hf; iintro Hf
  iapply (ret c)
  iapply Hpost $$ [HO HG0 Hx1 Ha0 Hv1 Hf]
  · iframe HO HG0 Hx1 Ha0 Hv1 Hf

/-- The first weights converted, the device's own product. -/
theorem part10 (v2 : BitVec 32) {f0} {Q : _ → sProp 𝕄} :
    iprop(Recs m K ∗ ow c (OS c 0) ∗ a1P m c 1 ∗ (∃ f, wsP c 1 f) ∗ semVal ((c : Thread nD τ), .dma (wlS 1)) 0 ∗ wlF m c 0 0 ∗ (∃ f, w8P c 0 f) ∗ a1P m c 3 ∗ xfS c 0 (xfC m c) ∗ ovW c f0
        ∗ (ow c (OS c 0) ∗ wlF m c 1 1 ∗ wlF m c 0 3 ∗ a1P m c 0 ∗ w8P c 0 (w8C m c) ∗ xfS c 0 (xfC m c) ∗ ovW c f0 -∗ Q ⟨O0 m c, f0⟩))
      ⊢ wpc c (k0_part10 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v2) Q := by
  rw [k0_part10_eq_skeleton]; unfold k0_part10_skel
  simp only [wpc, semSignalWord, semWaitWord, smemLoad, smemLoadElt, Prog.lift, Prog.bind_op, Prog.bind_ret, Prog.pure_eq_ret, wp_deviceId]
  iintro ⟨#HR, HO, Hb1, ⟨%_, Hw1⟩, Hu1, HG0, ⟨%_, Hg0⟩, Hb3, Hf, Hov, Hpost⟩
  iapply (wlo m c 1 1 1 rfl rfl rfl (k0_off2_eq c 1)) $$ [Hb1 Hw1 Hu1]; · iframe Hb1 Hw1 Hu1
  iintro HG1
  iapply (wlW (m := m) c 0 0 0 0 rfl rfl rfl) $$ [HG0 HO]; · iframe HR HG0 HO
  iintro ⟨⟨Hw0, Hb0⟩, Hu0, HO⟩
  iapply (ld_ws (m := m) c 0 0 rfl) $$ Hw0; iintro Hw0
  iapply (ld_w8' c 0 rfl) $$ Hg0; iintro Hg0
  iapply (st_w8 c (W8 m c) 0 rfl (pay_w m c 0)) $$ Hg0; iintro Hg0
  iapply (wlo m c 0 0 3 rfl rfl rfl (k0_off2_eq c 3)) $$ [Hb3 Hw0 Hu0]; · iframe Hb3 Hw0 Hu0
  iintro HG0
  iapply (ld_xf c (XF m c) 0 rfl) $$ Hf; iintro Hf
  iapply (ld_w8 c (W8 m c) 0 rfl) $$ Hg0; iintro Hg0
  iapply (ld_ovw c) $$ Hov; iintro Hov
  iapply (ret c)
  rw [pay_O0]
  iapply Hpost $$ [HO HG1 HG0 Hb0 Hg0 Hf Hov]
  · iframe HO HG1 HG0 Hb0 Hg0 Hf Hov

/-- The accumulator started, the next weights converted. -/
theorem part11 (v2 : BitVec 32) (v279 : Vec F S1024x2048 .f32) {f0} {Q : _ → sProp 𝕄} :
    iprop(Recs m K ∗ ow c (OS c 0) ∗ ovW c f0 ∗ wlF m c 1 1 ∗ (∃ f, w8P c 1 f) ∗ a1P m c 2 ∗ wlF m c 0 3
        ∗ (ow c (OS c 0) ∗ ovW c (O0 m c) ∗ a1P m c 1 ∗ w8P c 1 (w8C m c) ∗ wlF m c 1 2 ∗ wsP c 0 (wsC m c 3) ∗ a1P m c 3 ∗ semVal ((c : Thread nD τ), .dma (wlS 0)) 0 -∗ Q ⟨⟩))
      ⊢ wpc c (k0_part11 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v2 (O0 m c) v279) Q := by
  rw [k0_part11_eq_skeleton]; unfold k0_part11_skel
  simp only [wpc, semSignalWord, semWaitWord, smemLoad, smemLoadElt, Prog.lift, Prog.bind_op, Prog.bind_ret, Prog.pure_eq_ret, wp_deviceId]
  iintro ⟨#HR, HO, Hov, HG1, ⟨%_, Hg1⟩, Hb2, HG0, Hpost⟩
  rw [show k0_pay7 (O0 m c) = O0 m c from shapeCast_self _ _]
  iapply (st_ovw c) $$ Hov; iintro Hov
  iapply (wlW (m := m) c 1 1 1 0 rfl rfl rfl) $$ [HG1 HO]; · iframe HR HG1 HO
  iintro ⟨⟨Hw1, Hb1⟩, Hu1, HO⟩
  iapply (ld_ws (m := m) c 1 1 rfl) $$ Hw1; iintro Hw1
  iapply (ld_w8' c 1 rfl) $$ Hg1; iintro Hg1
  iapply (st_w8 c (W8 m c) 1 rfl (pay_w m c 1)) $$ Hg1; iintro Hg1
  iapply (wlo m c 1 1 2 rfl rfl rfl (k0_off2_eq c 2)) $$ [Hb2 Hw1 Hu1]; · iframe Hb2 Hw1 Hu1
  iintro HG1
  iapply (wlW (m := m) c 0 0 3 0 rfl rfl rfl) $$ [HG0 HO]; · iframe HR HG0 HO
  iintro ⟨⟨Hw0, Hb3⟩, Hu0, HO⟩
  iapply (ret c)
  iapply Hpost $$ [HO Hov Hb1 Hg1 HG1 Hw0 Hb3 Hu0]
  · iframe HO Hov Hb1 Hg1 HG1 Hw0 Hb3 Hu0

/-- The last weights converted, the scales read, the first chunk received. -/
theorem part12 (v44 : BitVec 32) {Q : _ → sProp 𝕄} :
    iprop(Recs m K ∗ ow c (OS c 0) ∗ wsP c 0 (wsC m c 3) ∗ (∃ f, w8P c 3 f) ∗ wlF m c 1 2 ∗ (∃ f, w8P c 2 f) ∗ ((c : Thread nD τ).loc cc0_stg0_0 ↦{fullShare} A2 m c) ∗ ((c : Thread nD τ).loc cc0_stg1_0 ↦{fullShare} A3 m c) ∗ rcvTok c 0
        ∗ (ow c (OS c 0) ∗ wsP c 0 (wsC m c 3) ∗ w8P c 3 (w8C m c) ∗ wsP c 1 (wsC m c 2) ∗ a1P m c 2 ∗ semVal ((c : Thread nD τ), .dma (wlS 1)) 0 ∗ w8P c 2 (w8C m c) ∗ ((c : Thread nD τ).loc cc0_stg0_0 ↦{fullShare} A2 m c) ∗ ((c : Thread nD τ).loc cc0_stg1_0 ↦{fullShare} A3 m c) ∗ semVal (recvCell c 0) 0 ∗ xfP c 1 0 (xfC m c) -∗ Q (scl m c)))
      ⊢ wpc c (k0_part12 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v44) Q := by
  rw [k0_part12_eq_skeleton]; unfold k0_part12_skel
  simp only [wpc, semSignalWord, semWaitWord, smemLoad, smemLoadElt, Prog.lift, Prog.bind_op, Prog.bind_ret, Prog.pure_eq_ret, wp_deviceId]
  iintro ⟨#HR, HO, Hw0, ⟨%_, Hg3⟩, HG1, ⟨%_, Hg2⟩, Hsa, Hsb, Hr0, Hpost⟩
  iapply (ld_ws (m := m) c 0 3 rfl) $$ Hw0; iintro Hw0
  iapply (ld_w8' c 3 rfl) $$ Hg3; iintro Hg3
  iapply (st_w8 c (W8 m c) 3 rfl (pay_w m c 3)) $$ Hg3; iintro Hg3
  iapply (wlW (m := m) c 1 1 2 0 rfl rfl rfl) $$ [HG1 HO]; · iframe HR HG1 HO
  iintro ⟨⟨Hw1, Hb2⟩, Hu1, HO⟩
  iapply (ld_ws (m := m) c 1 2 rfl) $$ Hw1; iintro Hw1
  iapply (ld_w8' c 2 rfl) $$ Hg2; iintro Hg2
  iapply (st_w8 c (W8 m c) 2 rfl (pay_w m c 2)) $$ Hg2; iintro Hg2
  iapply (ld_s0 m c) $$ Hsa; iintro Hsa
  iapply (ld_s1 m c) $$ Hsb; iintro Hsb
  iapply (rcvW m c 0 1 0 rfl rfl rfl rfl) $$ [HO Hr0]; · iframe HR HO Hr0
  iintro ⟨HO, Hk0, Hd0⟩
  iapply (ret c)
  rw [show k0_pay11 (A2 m c (ix1 (0 : Fin 1))) (A3 m c (ix1 (0 : Fin 1))) = scl m c from rfl]
  iapply Hpost $$ [HO Hw0 Hg3 Hw1 Hb2 Hu1 Hg2 Hsa Hsb Hk0 Hd0]
  · iframe HO Hw0 Hg3 Hw1 Hb2 Hu1 Hg2 Hsa Hsb Hk0 Hd0

end Cert.KProof

end
-- ==== Proof.PartsC.lean ====
/-
# The parts of the kernel that multiply and copy out

Chunk by chunk, the three products with what came from the peers are added, the result is scaled, cut at zero and copied out.
-/
module

public import proofs.«01_k».proof.Proof.PartsB

@[expose] public section

noncomputable section

namespace Cert.KProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-- One product added, as the kernel's stores print it. -/
def castAdd (o : FVec F S256x2048 .f32) (x : FVec F S256x1024 .fp8e4m3) (w : FVec F S1x1024x2048 .fp8e4m3) : FVec F S256x2048 .f32 :=
  shapeCast S256x2048 (addf o (matmul dot_S256x1024_S1024x2048_S256x2048_1_0_0_1_n_n none x
    (shapeCast S1024x2048 w shapeCasts_S1x1024x2048_S1024x2048) (constant S256x2048 .f32 0x00000000#32))) shapeCasts_S256x2048_S256x2048
theorem castAdd_eq (o x) (w : FVec F S1024x2048 .fp8e4m3) : castAdd (F := F) o x (lift1 w) = addStep o x w := by
  unfold castAdd addStep dotC
  rw [shapeCast_self, cast_lift1]
theorem castAdd_eq' (o) (x : FVec F S256x1024 .fp8e4m3) (w : FVec F S1024x2048 .fp8e4m3) :
    castAdd (F := F) o (shapeCast S256x1024 (lift1 x) shapeCasts_S1x256x1024_S256x1024) (lift1 w) = addStep o x w := by
  rw [cast_lift1, castAdd_eq]

/-- The last product added, scaled and cut at zero, as the kernel prints it. -/
def rawFin (s : F .f32) (o : FVec F S256x2048 .f32) (x : FVec F S1x256x1024 .fp8e4m3) (w : FVec F S1x1024x2048 .fp8e4m3) : FVec F S256x2048 .f32 :=
  maximumf (mulf (addf o (matmul dot_S256x1024_S1024x2048_S256x2048_1_0_0_1_n_n none (shapeCast S256x1024 x shapeCasts_S1x256x1024_S256x1024)
    (shapeCast S1024x2048 w shapeCasts_S1x1024x2048_S1024x2048) (constant S256x2048 .f32 0x00000000#32))) (broadcast S256x2048 s))
    (broadcast S256x2048 (Scalar.ofBits .f32 0x00000000#32))
theorem rawFin_eq (s o) (x : FVec F S256x1024 .fp8e4m3) (w : FVec F S1024x2048 .fp8e4m3) : rawFin (F := F) s o (lift1 x) (lift1 w) = finStep s o x w := by
  unfold rawFin finStep addStep dotC
  rw [cast_lift1, cast_lift1]

variable {m c}

/-- The chunk `j` of the accumulator after the first, the second and the last of the three products. -/
theorem acc1 (j : ℕ) (hj : j < 4) : castAdd (ch j (O0 m c)) (shapeCast S256x1024 (lift1 (ch j (XF m c 1))) shapeCasts_S1x256x1024_S256x1024) (lift1 (W8 m c 1)) = ch j (O1 m c) :=
  (castAdd_eq' _ _ _).trans (ch_glue (fun j => addStep (ch j (O0 m c)) (ch j (XF m c 1)) (W8 m c 1)) j hj).symm
theorem acc1' (j : ℕ) (hj : j < 4) : castAdd (ch j (O0 m c)) (ch j (XF m c 1)) (lift1 (W8 m c 1)) = ch j (O1 m c) :=
  (castAdd_eq _ _ _).trans (ch_glue (fun j => addStep (ch j (O0 m c)) (ch j (XF m c 1)) (W8 m c 1)) j hj).symm
theorem acc3 (j : ℕ) (hj : j < 4) : castAdd (ch j (O1 m c)) (shapeCast S256x1024 (lift1 (ch j (XF m c 3))) shapeCasts_S1x256x1024_S256x1024) (lift1 (W8 m c 3)) = ch j (O3 m c) :=
  (castAdd_eq' _ _ _).trans (ch_glue (fun j => addStep (ch j (O1 m c)) (ch j (XF m c 3)) (W8 m c 3)) j hj).symm
theorem fin' (j : ℕ) (hj : j < 4) : rawFin (scl m c) (ch j (O3 m c)) (lift1 (ch j (XF m c 2))) (lift1 (W8 m c 2)) = ch j (OUT m c) :=
  (rawFin_eq _ _ _ _).trans (ch_glue (fun j => finStep (scl m c) (ch j (O3 m c)) (ch j (XF m c 2)) (W8 m c 2)) j hj).symm
theorem fin2 (j : ℕ) (hj : j < 4) :
    shapeCast S256x2048 (rawFin (scl m c) (ch j (O3 m c)) (lift1 (ch j (XF m c 2))) (lift1 (W8 m c 2))) shapeCasts_S256x2048_S256x2048 = ch j (OUT m c) :=
  (shapeCast_self _ _).trans (fin' j hj)

variable (m c)

/-- Chunk 0: the first product, the second computed. -/
theorem part13 (v111 : BitVec 32) {Q : _ → sProp 𝕄} :
    iprop(Recs m K ∗ ow c (OS c 0) ∗ ovP c 0 (O0 m c) ∗ xfP c 1 0 (xfC m c) ∗ w8P c 1 (w8C m c) ∗ rcvTok c 4 ∗ w8P c 3 (w8C m c)
        ∗ (ow c (OS c 0) ∗ ovP c 0 (O1 m c) ∗ xfP c 1 0 (xfC m c) ∗ w8P c 1 (w8C m c) ∗ semVal (recvCell c 4) 0 ∗ xfP c 3 0 (xfC m c) ∗ w8P c 3 (w8C m c) -∗ Q (ch 0 (O3 m c))))
      ⊢ wpc c (k0_part13 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 v111) Q := by
  rw [k0_part13_eq_skeleton]; unfold k0_part13_skel
  simp only [wpc, semSignalWord, semWaitWord, smemLoad, smemLoadElt, Prog.lift, Prog.bind_op, Prog.bind_ret, Prog.pure_eq_ret, wp_deviceId]
  iintro ⟨#HR, HO, Ho0, Hd0, Hg1, Hr4, Hg3, Hpost⟩
  iapply (ld_ov c (O0 m c) 0 (by decide) rfl) $$ Ho0; iintro Ho0
  iapply (ld_xfc c (XF m c) 1 0 (by decide) rfl) $$ Hd0; iintro Hd0
  iapply (ld_w8 c (W8 m c) 1 rfl) $$ Hg1; iintro Hg1
  iapply (ld_ov' c (O0 m c) 0 rfl) $$ Ho0; iintro Ho0
  iapply (st_ov c (O1 m c) 0 (by decide) rfl (acc1 0 (by decide))) $$ Ho0; iintro Ho0
  iapply (rcvW m c 4 3 0 rfl rfl rfl rfl) $$ [HO Hr4]; · iframe HR HO Hr4
  iintro ⟨HO, Hk4, Hd4⟩
  iapply (ld_ov c (O1 m c) 0 (by decide) rfl) $$ Ho0; iintro Ho0
  iapply (ld_xfc c (XF m c) 3 0 (by decide) rfl) $$ Hd4; iintro Hd4
  iapply (ld_w8 c (W8 m c) 3 rfl) $$ Hg3; iintro Hg3
  iapply (ld_ov' c (O1 m c) 0 rfl) $$ Ho0; iintro Ho0
  iapply (ret c)
  rw [show k0_pay13 (ch 0 (O1 m c)) (lift1 (ch 0 (XF m c 3))) (lift1 (W8 m c 3)) = ch 0 (O3 m c) from acc3 0 (by decide)]
  iapply Hpost $$ [HO Ho0 Hd0 Hg1 Hk4 Hd4 Hg3]
  · iframe HO Ho0 Hd0 Hg1 Hk4 Hd4 Hg3

/-- Chunk 0: the second stored, the last, and the copy out. -/
theorem part14 (v178 : BitVec 32) {Q : _ → sProp 𝕄} :
    iprop(Recs m K ∗ ow c (OS c 0) ∗ ovP c 0 (O1 m c) ∗ rcvTok c 8 ∗ w8P c 2 (w8C m c) ∗ (∃ f, a4P c 0 f) ∗ semVal ((c : Thread nD τ), .dma (ocS 0)) 0
        ∗ (ow c (OS c 0) ∗ semVal (recvCell c 8) 0 ∗ xfP c 2 0 (xfC m c) ∗ w8P c 2 (w8C m c) ∗ ocF m c 0 -∗ Q ⟨⟩))
      ⊢ wpc c (k0_part14 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 v178 (scl m c) (ch 0 (O3 m c))) Q := by
  rw [k0_part14_eq_skeleton]; unfold k0_part14_skel
  simp only [wpc, semSignalWord, semWaitWord, smemLoad, smemLoadElt, Prog.lift, Prog.bind_op, Prog.bind_ret, Prog.pure_eq_ret, wp_deviceId]
  iintro ⟨#HR, HO, Ho0, Hr8, Hg2, ⟨%_, Hq0⟩, Hz0, Hpost⟩
  iapply (st_ov c (O3 m c) 0 (by decide) rfl rfl) $$ Ho0; iintro Ho0
  iapply (rcvW m c 8 2 0 rfl rfl rfl rfl) $$ [HO Hr8]; · iframe HR HO Hr8
  iintro ⟨HO, Hk8, Hd8⟩
  iapply (ld_ov c (O3 m c) 0 (by decide) rfl) $$ Ho0; iintro Ho0
  iapply (ld_xfc c (XF m c) 2 0 (by decide) rfl) $$ Hd8; iintro Hd8
  iapply (ld_w8 c (W8 m c) 2 rfl) $$ Hg2; iintro Hg2
  iapply (ld_ov' c (O3 m c) 0 rfl) $$ Ho0; iintro Ho0
  iapply (st_ov c (OUT m c) 0 (by decide) rfl (fin2 0 (by decide))) $$ Ho0; iintro Ho0
  iapply (oc m c 0 0 rfl rfl rfl rfl) $$ [Ho0 Hq0 Hz0]; · iframe Ho0 Hq0 Hz0
  iintro HH0
  iapply (ret c)
  iapply Hpost $$ [HO Hk8 Hd8 Hg2 HH0]
  · iframe HO Hk8 Hd8 Hg2 HH0

/-- Chunk 1: the first product. -/
theorem part15 (v56 v123 : BitVec 32) {Q : _ → sProp 𝕄} :
    iprop(Recs m K ∗ ow c (OS c 0) ∗ rcvTok c 1 ∗ ovP c 1 (O0 m c) ∗ w8P c 1 (w8C m c) ∗ rcvTok c 5
        ∗ (ow c (OS c 0) ∗ semVal (recvCell c 1) 0 ∗ xfP c 1 1 (xfC m c) ∗ ovP c 1 (O1 m c) ∗ w8P c 1 (w8C m c) ∗ semVal (recvCell c 5) 0 ∗ xfP c 3 1 (xfC m c) -∗ Q (ch 1 (O1 m c))))
      ⊢ wpc c (k0_part15 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 v56 v123) Q := by
  rw [k0_part15_eq_skeleton]; unfold k0_part15_skel
  simp only [wpc, semSignalWord, semWaitWord, smemLoad, smemLoadElt, Prog.lift, Prog.bind_op, Prog.bind_ret, Prog.pure_eq_ret, wp_deviceId]
  iintro ⟨#HR, HO, Hr1, Ho1, Hg1, Hr5, Hpost⟩
  iapply (rcvW m c 1 1 1 rfl rfl rfl rfl) $$ [HO Hr1]; · iframe HR HO Hr1
  iintro ⟨HO, Hk1, Hd1⟩
  iapply (ld_ov c (O0 m c) 1 (by decide) rfl) $$ Ho1; iintro Ho1
  iapply (ld_xfc c (XF m c) 1 1 (by decide) rfl) $$ Hd1; iintro Hd1
  iapply (ld_w8 c (W8 m c) 1 rfl) $$ Hg1; iintro Hg1
  iapply (ld_ov' c (O0 m c) 1 rfl) $$ Ho1; iintro Ho1
  iapply (st_ov c (O1 m c) 1 (by decide) rfl (acc1 1 (by decide))) $$ Ho1; iintro Ho1
  iapply (rcvW m c 5 3 1 rfl rfl rfl rfl) $$ [HO Hr5]; · iframe HR HO Hr5
  iintro ⟨HO, Hk5, Hd5⟩
  iapply (ld_ov c (O1 m c) 1 (by decide) rfl) $$ Ho1; iintro Ho1
  iapply (ret c)
  iapply Hpost $$ [HO Hk1 Hd1 Ho1 Hg1 Hk5 Hd5]
  · iframe HO Hk1 Hd1 Ho1 Hg1 Hk5 Hd5

/-- Chunk 1: the second product, the last computed. -/
theorem part16 (v190 : BitVec 32) {Q : _ → sProp 𝕄} :
    iprop(Recs m K ∗ ow c (OS c 0) ∗ xfP c 3 1 (xfC m c) ∗ w8P c 3 (w8C m c) ∗ ovP c 1 (O1 m c) ∗ rcvTok c 9 ∗ w8P c 2 (w8C m c)
        ∗ (ow c (OS c 0) ∗ xfP c 3 1 (xfC m c) ∗ w8P c 3 (w8C m c) ∗ ovP c 1 (O3 m c) ∗ semVal (recvCell c 9) 0 ∗ xfP c 2 1 (xfC m c) ∗ w8P c 2 (w8C m c) -∗ Q (ch 1 (OUT m c))))
      ⊢ wpc c (k0_part16 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 v190 (scl m c) (ch 1 (O1 m c))) Q := by
  rw [k0_part16_eq_skeleton]; unfold k0_part16_skel
  simp only [wpc, semSignalWord, semWaitWord, smemLoad, smemLoadElt, Prog.lift, Prog.bind_op, Prog.bind_ret, Prog.pure_eq_ret, wp_deviceId]
  iintro ⟨#HR, HO, Hd5, Hg3, Ho1, Hr9, Hg2, Hpost⟩
  iapply (ld_xfc c (XF m c) 3 1 (by decide) rfl) $$ Hd5; iintro Hd5
  iapply (ld_w8 c (W8 m c) 3 rfl) $$ Hg3; iintro Hg3
  iapply (ld_ov' c (O1 m c) 1 rfl) $$ Ho1; iintro Ho1
  iapply (st_ov c (O3 m c) 1 (by decide) rfl (acc3 1 (by decide))) $$ Ho1; iintro Ho1
  iapply (rcvW m c 9 2 1 rfl rfl rfl rfl) $$ [HO Hr9]; · iframe HR HO Hr9
  iintro ⟨HO, Hk9, Hd9⟩
  iapply (ld_ov c (O3 m c) 1 (by decide) rfl) $$ Ho1; iintro Ho1
  iapply (ld_xfc c (XF m c) 2 1 (by decide) rfl) $$ Hd9; iintro Hd9
  iapply (ld_w8 c (W8 m c) 2 rfl) $$ Hg2; iintro Hg2
  iapply (ret c)
  rw [show k0_pay17 (scl m c) (ch 1 (O3 m c)) (lift1 (ch 1 (XF m c 2))) (lift1 (W8 m c 2)) = ch 1 (OUT m c) from fin' 1 (by decide)]
  iapply Hpost $$ [HO Hd5 Hg3 Ho1 Hk9 Hd9 Hg2]
  · iframe HO Hd5 Hg3 Ho1 Hk9 Hd9 Hg2

/-- Chunk 1 stored and copied out; chunk 2: the first product. -/
theorem part17 (v68 : BitVec 32) {Q : _ → sProp 𝕄} :
    iprop(Recs m K ∗ ow c (OS c 0) ∗ ovP c 1 (O3 m c) ∗ (∃ f, a4P c 1 f) ∗ semVal ((c : Thread nD τ), .dma (ocS 1)) 0 ∗ rcvTok c 2 ∗ ovP c 2 (O0 m c) ∗ w8P c 1 (w8C m c)
        ∗ (ow c (OS c 0) ∗ ocF m c 1 ∗ semVal (recvCell c 2) 0 ∗ xfP c 1 2 (xfC m c) ∗ ovP c 2 (O1 m c) ∗ w8P c 1 (w8C m c) -∗ Q ⟨⟩))
      ⊢ wpc c (k0_part17 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 v68 (ch 1 (OUT m c))) Q := by
  rw [k0_part17_eq_skeleton]; unfold k0_part17_skel
  simp only [wpc, semSignalWord, semWaitWord, smemLoad, smemLoadElt, Prog.lift, Prog.bind_op, Prog.bind_ret, Prog.pure_eq_ret, wp_deviceId]
  iintro ⟨#HR, HO, Ho1, ⟨%_, Hq1⟩, Hz1, Hr2, Ho2, Hg1, Hpost⟩
  iapply (ld_ov' c (O3 m c) 1 rfl) $$ Ho1; iintro Ho1
  iapply (st_ov c (OUT m c) 1 (by decide) rfl (shapeCast_self _ _)) $$ Ho1; iintro Ho1
  iapply (oc m c 1 1 rfl rfl rfl rfl) $$ [Ho1 Hq1 Hz1]; · iframe Ho1 Hq1 Hz1
  iintro HH1
  iapply (rcvW m c 2 1 2 rfl rfl rfl rfl) $$ [HO Hr2]; · iframe HR HO Hr2
  iintro ⟨HO, Hk2, Hd2⟩
  iapply (ld_ov c (O0 m c) 2 (by decide) rfl) $$ Ho2; iintro Ho2
  iapply (ld_xfc c (XF m c) 1 2 (by decide) rfl) $$ Hd2; iintro Hd2
  iapply (ld_w8 c (W8 m c) 1 rfl) $$ Hg1; iintro Hg1
  iapply (ld_ov' c (O0 m c) 2 rfl) $$ Ho2; iintro Ho2
  iapply (st_ov c (O1 m c) 2 (by decide) rfl (acc1 2 (by decide))) $$ Ho2; iintro Ho2
  iapply (ret c)
  iapply Hpost $$ [HO HH1 Hk2 Hd2 Ho2 Hg1]
  · iframe HO HH1 Hk2 Hd2 Ho2 Hg1

/-- Chunk 2: the second product. -/
theorem part18 (v135 v202 : BitVec 32) {Q : _ → sProp 𝕄} :
    iprop(Recs m K ∗ ow c (OS c 0) ∗ rcvTok c 6 ∗ ovP c 2 (O1 m c) ∗ w8P c 3 (w8C m c) ∗ rcvTok c 10
        ∗ (ow c (OS c 0) ∗ semVal (recvCell c 6) 0 ∗ xfP c 3 2 (xfC m c) ∗ ovP c 2 (O3 m c) ∗ w8P c 3 (w8C m c) ∗ semVal (recvCell c 10) 0 ∗ xfP c 2 2 (xfC m c) -∗ Q (ch 2 (O3 m c))))
      ⊢ wpc c (k0_part18 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 v135 v202) Q := by
  rw [k0_part18_eq_skeleton]; unfold k0_part18_skel
  simp only [wpc, semSignalWord, semWaitWord, smemLoad, smemLoadElt, Prog.lift, Prog.bind_op, Prog.bind_ret, Prog.pure_eq_ret, wp_deviceId]
  iintro ⟨#HR, HO, Hr6, Ho2, Hg3, Hr10, Hpost⟩
  iapply (rcvW m c 6 3 2 rfl rfl rfl rfl) $$ [HO Hr6]; · iframe HR HO Hr6
  iintro ⟨HO, Hk6, Hd6⟩
  iapply (ld_ov c (O1 m c) 2 (by decide) rfl) $$ Ho2; iintro Ho2
  iapply (ld_xfc c (XF m c) 3 2 (by decide) rfl) $$ Hd6; iintro Hd6
  iapply (ld_w8 c (W8 m c) 3 rfl) $$ Hg3; iintro Hg3
  iapply (ld_ov' c (O1 m c) 2 rfl) $$ Ho2; iintro Ho2
  iapply (st_ov c (O3 m c) 2 (by decide) rfl (acc3 2 (by decide))) $$ Ho2; iintro Ho2
  iapply (rcvW m c 10 2 2 rfl rfl rfl rfl) $$ [HO Hr10]; · iframe HR HO Hr10
  iintro ⟨HO, Hk10, Hd10⟩
  iapply (ld_ov c (O3 m c) 2 (by decide) rfl) $$ Ho2; iintro Ho2
  iapply (ret c)
  iapply Hpost $$ [HO Hk6 Hd6 Ho2 Hg3 Hk10 Hd10]
  · iframe HO Hk6 Hd6 Ho2 Hg3 Hk10 Hd10

/-- Chunk 2: the last product and the copy out; chunk 3 begun. -/
theorem part19 (v80 : BitVec 32) {Q : _ → sProp 𝕄} :
    iprop(Recs m K ∗ ow c (OS c 0) ∗ xfP c 2 2 (xfC m c) ∗ w8P c 2 (w8C m c) ∗ ovP c 2 (O3 m c) ∗ (∃ f, a4P c 2 f) ∗ semVal ((c : Thread nD τ), .dma (ocS 2)) 0 ∗ rcvTok c 3 ∗ ovP c 3 (O0 m c)
        ∗ (ow c (OS c 0) ∗ xfP c 2 2 (xfC m c) ∗ w8P c 2 (w8C m c) ∗ ocF m c 2 ∗ semVal (recvCell c 3) 0 ∗ xfP c 1 3 (xfC m c) ∗ ovP c 3 (O0 m c) -∗ Q ⟨ch 3 (O0 m c), ch 3 (XF m c 1)⟩))
      ⊢ wpc c (k0_part19 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 v80 (scl m c) (ch 2 (O3 m c))) Q := by
  rw [k0_part19_eq_skeleton]; unfold k0_part19_skel
  simp only [wpc, semSignalWord, semWaitWord, smemLoad, smemLoadElt, Prog.lift, Prog.bind_op, Prog.bind_ret, Prog.pure_eq_ret, wp_deviceId]
  iintro ⟨#HR, HO, Hd10, Hg2, Ho2, ⟨%_, Hq2⟩, Hz2, Hr3, Ho3, Hpost⟩
  iapply (ld_xfc c (XF m c) 2 2 (by decide) rfl) $$ Hd10; iintro Hd10
  iapply (ld_w8 c (W8 m c) 2 rfl) $$ Hg2; iintro Hg2
  iapply (ld_ov' c (O3 m c) 2 rfl) $$ Ho2; iintro Ho2
  iapply (st_ov c (OUT m c) 2 (by decide) rfl (fin2 2 (by decide))) $$ Ho2; iintro Ho2
  iapply (oc m c 2 2 rfl rfl rfl rfl) $$ [Ho2 Hq2 Hz2]; · iframe Ho2 Hq2 Hz2
  iintro HH2
  iapply (rcvW m c 3 1 3 rfl rfl rfl rfl) $$ [HO Hr3]; · iframe HR HO Hr3
  iintro ⟨HO, Hk3, Hd3⟩
  iapply (ld_ov c (O0 m c) 3 (by decide) rfl) $$ Ho3; iintro Ho3
  iapply (ld_xfc c (XF m c) 1 3 (by decide) rfl) $$ Hd3; iintro Hd3
  iapply (ret c)
  rw [show k0_pay22 (lift1 (ch 3 (XF m c 1))) = ch 3 (XF m c 1) from cast_lift1 _ _]
  iapply Hpost $$ [HO Hd10 Hg2 HH2 Hk3 Hd3 Ho3]
  · iframe HO Hd10 Hg2 HH2 Hk3 Hd3 Ho3

/-- Chunk 3: the first two products. -/
theorem part20 (v147 : BitVec 32) {Q : _ → sProp 𝕄} :
    iprop(Recs m K ∗ ow c (OS c 0) ∗ w8P c 1 (w8C m c) ∗ ovP c 3 (O0 m c) ∗ rcvTok c 7 ∗ w8P c 3 (w8C m c)
        ∗ (ow c (OS c 0) ∗ w8P c 1 (w8C m c) ∗ ovP c 3 (O3 m c) ∗ semVal (recvCell c 7) 0 ∗ xfP c 3 3 (xfC m c) ∗ w8P c 3 (w8C m c) -∗ ∀ v, Q v))
      ⊢ wpc c (k0_part20 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 v147 (ch 3 (O0 m c)) (ch 3 (XF m c 1))) Q := by
  rw [k0_part20_eq_skeleton]; unfold k0_part20_skel
  simp only [wpc, semSignalWord, semWaitWord, smemLoad, smemLoadElt, Prog.lift, Prog.bind_op, Prog.bind_ret, Prog.pure_eq_ret, wp_deviceId]
  iintro ⟨#HR, HO, Hg1, Ho3, Hr7, Hg3, Hpost⟩
  iapply (ld_w8 c (W8 m c) 1 rfl) $$ Hg1; iintro Hg1
  iapply (ld_ov' c (O0 m c) 3 rfl) $$ Ho3; iintro Ho3
  iapply (st_ov c (O1 m c) 3 (by decide) rfl (acc1' 3 (by decide))) $$ Ho3; iintro Ho3
  iapply (rcvW m c 7 3 3 rfl rfl rfl rfl) $$ [HO Hr7]; · iframe HR HO Hr7
  iintro ⟨HO, Hk7, Hd7⟩
  iapply (ld_ov c (O1 m c) 3 (by decide) rfl) $$ Ho3; iintro Ho3
  iapply (ld_xfc c (XF m c) 3 3 (by decide) rfl) $$ Hd7; iintro Hd7
  iapply (ld_w8 c (W8 m c) 3 rfl) $$ Hg3; iintro Hg3
  iapply (ld_ov' c (O1 m c) 3 rfl) $$ Ho3; iintro Ho3
  iapply (st_ov c (O3 m c) 3 (by decide) rfl (acc3 3 (by decide))) $$ Ho3; iintro Ho3
  iapply (ret c)
  iapply Hpost $$ [HO Hg1 Ho3 Hk7 Hd7 Hg3]
  · iframe HO Hg1 Ho3 Hk7 Hd7 Hg3

/-- Chunk 3: the last product and the copy out. -/
theorem part21 (v214 c1 : BitVec 32) {Q : _ → sProp 𝕄} :
    iprop(Recs m K ∗ ow c (OS c 0) ∗ rcvTok c 11 ∗ ovP c 3 (O3 m c) ∗ w8P c 2 (w8C m c) ∗ (∃ f, a4P c 3 f) ∗ semVal ((c : Thread nD τ), .dma (ocS 3)) 0
        ∗ (ow c (OS c 0) ∗ semVal (recvCell c 11) 0 ∗ xfP c 2 3 (xfC m c) ∗ w8P c 2 (w8C m c) ∗ ocF m c 3 -∗ Q ⟨⟩))
      ⊢ wpc c (k0_part21 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 v214 (scl m c) c1) Q := by
  rw [k0_part21_eq_skeleton]; unfold k0_part21_skel
  simp only [wpc, semSignalWord, semWaitWord, smemLoad, smemLoadElt, Prog.lift, Prog.bind_op, Prog.bind_ret, Prog.pure_eq_ret, wp_deviceId]
  iintro ⟨#HR, HO, Hr11, Ho3, Hg2, ⟨%_, Hq3⟩, Hz3, Hpost⟩
  iapply (rcvW m c 11 2 3 rfl rfl rfl rfl) $$ [HO Hr11]; · iframe HR HO Hr11
  iintro ⟨HO, Hk11, Hd11⟩
  iapply (ld_ov c (O3 m c) 3 (by decide) rfl) $$ Ho3; iintro Ho3
  iapply (ld_xfc c (XF m c) 2 3 (by decide) rfl) $$ Hd11; iintro Hd11
  iapply (ld_w8 c (W8 m c) 2 rfl) $$ Hg2; iintro Hg2
  iapply (ld_ov' c (O3 m c) 3 rfl) $$ Ho3; iintro Ho3
  iapply (st_ov c (OUT m c) 3 (by decide) rfl (fin2 3 (by decide))) $$ Ho3; iintro Ho3
  iapply (oc m c 3 3 rfl rfl rfl rfl) $$ [Ho3 Hq3 Hz3]; · iframe Ho3 Hq3 Hz3
  iintro HH3
  iapply (ret c)
  iapply Hpost $$ [HO Hk11 Hd11 Hg2 HH3]
  · iframe HO Hk11 Hd11 Hg2 HH3

/-- The four copies out have ended, and transfer 0 has left. -/
theorem part22 {Q : _ → sProp 𝕄} :
    iprop(Recs m K ∗ ow c (OS c 0) ∗ ocF m c 0 ∗ ocF m c 1 ∗ ocF m c 2 ∗ ocF m c 3 ∗ sntTok c 0
        ∗ (ow c (OS c 0) ∗ a4P c 0 (OUT m c) ∗ ovP c 0 (OUT m c) ∗ semVal ((c : Thread nD τ), .dma (ocS 0)) 0 ∗ a4P c 1 (OUT m c) ∗ ovP c 1 (OUT m c) ∗ semVal ((c : Thread nD τ), .dma (ocS 1)) 0 ∗ a4P c 2 (OUT m c) ∗ ovP c 2 (OUT m c) ∗ semVal ((c : Thread nD τ), .dma (ocS 2)) 0 ∗ a4P c 3 (OUT m c) ∗ ovP c 3 (OUT m c) ∗ semVal ((c : Thread nD τ), .dma (ocS 3)) 0 ∗ semVal (sendCell c 0) 0 ∗ src m c 0 -∗ Q ⟨⟩))
      ⊢ wpc c (k0_part22 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10) Q := by
  rw [k0_part22_eq_skeleton]; unfold k0_part22_skel
  simp only [wpc, semSignalWord, semWaitWord, smemLoad, smemLoadElt, Prog.lift, Prog.bind_op, Prog.bind_ret, Prog.pure_eq_ret, wp_deviceId]
  iintro ⟨#HR, HO, HH0, HH1, HH2, HH3, Hn0, Hpost⟩
  iapply (ocW (m := m) c 0 0 rfl rfl rfl) $$ [HH0 HO]; · iframe HR HH0 HO
  iintro ⟨⟨Hq0, Ho0⟩, Hz0, HO⟩
  iapply (ocW (m := m) c 1 1 rfl rfl rfl) $$ [HH1 HO]; · iframe HR HH1 HO
  iintro ⟨⟨Hq1, Ho1⟩, Hz1, HO⟩
  iapply (ocW (m := m) c 2 2 rfl rfl rfl) $$ [HH2 HO]; · iframe HR HH2 HO
  iintro ⟨⟨Hq2, Ho2⟩, Hz2, HO⟩
  iapply (ocW (m := m) c 3 3 rfl rfl rfl) $$ [HH3 HO]; · iframe HR HH3 HO
  iintro ⟨⟨Hq3, Ho3⟩, Hz3, HO⟩
  iapply (sndW m c 0 rfl rfl) $$ [HO Hn0]; · iframe HR HO Hn0
  iintro ⟨HO, Hp0, Hs0⟩
  iapply (ret c)
  iapply Hpost $$ [HO Hq0 Ho0 Hz0 Hq1 Ho1 Hz1 Hq2 Ho2 Hz2 Hq3 Ho3 Hz3 Hp0 Hs0]
  · iframe HO Hq0 Ho0 Hz0 Hq1 Ho1 Hz1 Hq2 Ho2 Hz2 Hq3 Ho3 Hz3 Hp0 Hs0

/-- Transfers 1 to 4 have left. -/
theorem part23 {Q : _ → sProp 𝕄} :
    iprop(Recs m K ∗ ow c (OS c 0) ∗ sntTok c 1 ∗ sntTok c 2 ∗ sntTok c 3 ∗ sntTok c 4
        ∗ (ow c (OS c 0) ∗ semVal (sendCell c 1) 0 ∗ src m c 1 ∗ semVal (sendCell c 2) 0 ∗ src m c 2 ∗ semVal (sendCell c 3) 0 ∗ src m c 3 ∗ semVal (sendCell c 4) 0 ∗ src m c 4 -∗ Q ⟨⟩))
      ⊢ wpc c (k0_part23 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10) Q := by
  rw [k0_part23_eq_skeleton]; unfold k0_part23_skel
  simp only [wpc, semSignalWord, semWaitWord, smemLoad, smemLoadElt, Prog.lift, Prog.bind_op, Prog.bind_ret, Prog.pure_eq_ret, wp_deviceId]
  iintro ⟨#HR, HO, Hn1, Hn2, Hn3, Hn4, Hpost⟩
  iapply (sndW m c 1 rfl rfl) $$ [HO Hn1]; · iframe HR HO Hn1
  iintro ⟨HO, Hp1, Hs1⟩
  iapply (sndW m c 2 rfl rfl) $$ [HO Hn2]; · iframe HR HO Hn2
  iintro ⟨HO, Hp2, Hs2⟩
  iapply (sndW m c 3 rfl rfl) $$ [HO Hn3]; · iframe HR HO Hn3
  iintro ⟨HO, Hp3, Hs3⟩
  iapply (sndW m c 4 rfl rfl) $$ [HO Hn4]; · iframe HR HO Hn4
  iintro ⟨HO, Hp4, Hs4⟩
  iapply (ret c)
  iapply Hpost $$ [HO Hp1 Hs1 Hp2 Hs2 Hp3 Hs3 Hp4 Hs4]
  · iframe HO Hp1 Hs1 Hp2 Hs2 Hp3 Hs3 Hp4 Hs4

/-- Transfers 5 to 8 have left. -/
theorem part24 {Q : _ → sProp 𝕄} :
    iprop(Recs m K ∗ ow c (OS c 0) ∗ sntTok c 5 ∗ sntTok c 6 ∗ sntTok c 7 ∗ sntTok c 8
        ∗ (ow c (OS c 0) ∗ semVal (sendCell c 5) 0 ∗ src m c 5 ∗ semVal (sendCell c 6) 0 ∗ src m c 6 ∗ semVal (sendCell c 7) 0 ∗ src m c 7 ∗ semVal (sendCell c 8) 0 ∗ src m c 8 -∗ Q ⟨⟩))
      ⊢ wpc c (k0_part24 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10) Q := by
  rw [k0_part24_eq_skeleton]; unfold k0_part24_skel
  simp only [wpc, semSignalWord, semWaitWord, smemLoad, smemLoadElt, Prog.lift, Prog.bind_op, Prog.bind_ret, Prog.pure_eq_ret, wp_deviceId]
  iintro ⟨#HR, HO, Hn5, Hn6, Hn7, Hn8, Hpost⟩
  iapply (sndW m c 5 rfl rfl) $$ [HO Hn5]; · iframe HR HO Hn5
  iintro ⟨HO, Hp5, Hs5⟩
  iapply (sndW m c 6 rfl rfl) $$ [HO Hn6]; · iframe HR HO Hn6
  iintro ⟨HO, Hp6, Hs6⟩
  iapply (sndW m c 7 rfl rfl) $$ [HO Hn7]; · iframe HR HO Hn7
  iintro ⟨HO, Hp7, Hs7⟩
  iapply (sndW m c 8 rfl rfl) $$ [HO Hn8]; · iframe HR HO Hn8
  iintro ⟨HO, Hp8, Hs8⟩
  iapply (ret c)
  iapply Hpost $$ [HO Hp5 Hs5 Hp6 Hs6 Hp7 Hs7 Hp8 Hs8]
  · iframe HO Hp5 Hs5 Hp6 Hs6 Hp7 Hs7 Hp8 Hs8

end Cert.KProof

end
-- ==== Proof.Body.lean ====
/-
# The kernel's body

The parts one after another at a device `c`: from the arguments, the scratch buffers at any contents and the tokens to the
result's contents.
-/
module

public import proofs.«01_k».proof.Proof.PartsC

@[expose] public section

noncomputable section

namespace Cert.KProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × CK → ℕ) (c : Dev nD)

theorem sep12 (P : Fin 12 → sProp 𝕄) :
    bigSep Finset.univ P = iprop(P 0 ∗ P 1 ∗ P 2 ∗ P 3 ∗ P 4 ∗ P 5 ∗ P 6 ∗ P 7 ∗ P 8 ∗ P 9 ∗ P 10 ∗ P 11) := by
  rw [bigSep_univ_eq_bigSepL [0, 1, 2, 3, 4, 5, 6, 7, 8, 9, 10, 11] (by decide) (by decide)]; simp only [bigSepL_cons_cons, bigSepL_singleton]; rfl

/-! ## Buffers opened at any contents -/

theorem xs_open : iprop(∃ f, (c : Thread nD τ).loc cc0_scratch0 ↦{fullShare} f) ⊢ (iprop((∃ f, xsP c 0 f) ∗ (∃ f, xsP c 1 f)) : sProp 𝕄) := by
  iintro ⟨%f, H⟩
  ihave H := (Entails.of_eq (xs_slots c f)) $$ H
  icases H with ⟨H0, H1⟩
  isplitl [H0]; · iexists f; iexact H0
  iexists f; iexact H1
theorem ws_open : iprop(∃ f, (c : Thread nD τ).loc cc0_scratch3 ↦{fullShare} f) ⊢ (iprop((∃ f, wsP c 0 f) ∗ (∃ f, wsP c 1 f)) : sProp 𝕄) := by
  iintro ⟨%f, H⟩
  ihave H := (Entails.of_eq (ws_slots c f)) $$ H
  icases H with ⟨H0, H1⟩
  isplitl [H0]; · iexists f; iexact H0
  iexists f; iexact H1
theorem x8_open : iprop(∃ f, (c : Thread nD τ).loc cc0_scratch1 ↦{fullShare} f)
    ⊢ (iprop((∃ f, x8S c 0 f) ∗ (∃ f, x8S c 1 f) ∗ (∃ f, x8S c 2 f)) : sProp 𝕄) := by
  iintro ⟨%f, H⟩
  ihave H := (Entails.of_eq (x8_slots c f)) $$ H
  icases H with ⟨H0, H1, H2⟩
  isplitl [H0]; · iexists f; iexact H0
  isplitl [H1]; · iexists f; iexact H1
  iexists f; iexact H2
theorem w8_open : iprop(∃ f, (c : Thread nD τ).loc cc0_scratch4 ↦{fullShare} f)
    ⊢ (iprop((∃ f, w8P c 0 f) ∗ (∃ f, w8P c 1 f) ∗ (∃ f, w8P c 2 f) ∗ (∃ f, w8P c 3 f)) : sProp 𝕄) := by
  iintro ⟨%f, H⟩
  ihave H := (Entails.of_eq (w8_slots c f)) $$ H
  icases H with ⟨H0, H1, H2, H3⟩
  isplitl [H0]; · iexists f; iexact H0
  isplitl [H1]; · iexists f; iexact H1
  isplitl [H2]; · iexists f; iexact H2
  iexists f; iexact H3
theorem a4_open : iprop(∃ f, (c : Thread nD τ).loc main_v1 ↦{fullShare} f)
    ⊢ (iprop((∃ f, a4P c 0 f) ∗ (∃ f, a4P c 1 f) ∗ (∃ f, a4P c 2 f) ∗ (∃ f, a4P c 3 f)) : sProp 𝕄) := by
  iintro ⟨%f, H⟩
  ihave H := (Entails.of_eq (a4_rows c f)) $$ H
  icases H with ⟨H0, H1, H2, H3⟩
  isplitl [H0]; · iexists f; iexact H0
  isplitl [H1]; · iexists f; iexact H1
  isplitl [H2]; · iexists f; iexact H2
  iexists f; iexact H3
/-- The gathered buffer: the slot the device fills itself, and the three it hands to its peers. -/
theorem xf_open : iprop(∃ f, (c : Thread nD τ).loc cc0_scratch2 ↦{fullShare} f)
    ⊢ (iprop((∃ f, xfS c 0 f) ∗ barPay (bwd c (ord 0)) 0 ∗ barPay (bwd c (ord 1)) 1 ∗ barPay (bwd c (ord 2)) 2) : sProp 𝕄) := by
  iintro ⟨%f, H⟩
  ihave H := (Entails.of_eq (xf_slots c f)) $$ H
  icases H with ⟨H0, H1, H2, H3⟩
  isplitl [H0]; · iexists f; iexact H0
  isplitl [H1]; · iapply (barPay_of c 0 f); iexact H1
  isplitl [H3]; · iapply (barPay_of c 1 f); iexact H3
  iapply (barPay_of c 2 f); iexact H2

/-! ## What the body takes and leaves -/

/-- The semaphores of the device's own copies, at rest. -/
def locSems : sProp 𝕄 :=
  iprop(semVal ((c : Thread nD τ), .dma (xlS 0)) 0 ∗ semVal ((c : Thread nD τ), .dma (xlS 1)) 0 ∗ semVal ((c : Thread nD τ), .dma (wlS 0)) 0
    ∗ semVal ((c : Thread nD τ), .dma (wlS 1)) 0 ∗ semVal ((c : Thread nD τ), .dma (ocS 0)) 0 ∗ semVal ((c : Thread nD τ), .dma (ocS 1)) 0
    ∗ semVal ((c : Thread nD τ), .dma (ocS 2)) 0 ∗ semVal ((c : Thread nD τ), .dma (ocS 3)) 0)

/-- The scratch buffers, at any contents. -/
def scr : sProp 𝕄 :=
  iprop((∃ f, (c : Thread nD τ).loc cc0_scratch0 ↦{fullShare} f) ∗ (∃ f, (c : Thread nD τ).loc cc0_scratch1 ↦{fullShare} f)
    ∗ (∃ f, (c : Thread nD τ).loc cc0_scratch2 ↦{fullShare} f) ∗ (∃ f, (c : Thread nD τ).loc cc0_scratch3 ↦{fullShare} f)
    ∗ (∃ f, (c : Thread nD τ).loc cc0_scratch4 ↦{fullShare} f) ∗ (∃ f, (c : Thread nD τ).loc cc0_scratch5 ↦{fullShare} f))

/-- The arrays in memory, the result at contents `f`. -/
def arrs (f : Buf (Elt F) ((c : Thread nD τ).loc main_v1)) : sProp 𝕄 :=
  iprop(((c : Thread nD τ).loc main_arg0 ↦{fullShare} A0 m c) ∗ ((c : Thread nD τ).loc main_arg1 ↦{fullShare} A1 m c)
    ∗ ((c : Thread nD τ).loc main_v1 ↦{fullShare} f))

/-- The scales in their staging buffers. -/
def stgs : sProp 𝕄 :=
  iprop(((c : Thread nD τ).loc cc0_stg0_0 ↦{fullShare} A2 m c) ∗ ((c : Thread nD τ).loc cc0_stg1_0 ↦{fullShare} A3 m c))

/-- The tokens of the duties a device pays at its peers' barrier cells. -/
def barDuties : sProp 𝕄 :=
  iprop(dutyTok ER (barCell (bwd c (ord 0))) 0 0 ∗ dutyTok ER (barCell (bwd c (ord 1))) 0 1 ∗ dutyTok ER (barCell (bwd c (ord 2))) 0 2)

/-- The protocol's part of what the body takes. -/
def toks : sProp 𝕄 :=
  iprop(barDuties c ∗ barTok c ∗ (bigSep Finset.univ fun i : Fin 12 => sndTok c i) ∗ (bigSep Finset.univ fun i : Fin 12 => rcvTok c i))

/-- The protocol's cells, all at rest again. -/
def doneSems : sProp 𝕄 :=
  iprop(semVal (barCell c) 0 ∗ (bigSep Finset.univ fun i : Fin 12 => semVal (sendCell c i) 0) ∗ (bigSep Finset.univ fun i : Fin 12 => semVal (recvCell c i) 0))

theorem sigTok_intro (o : Fin 3) : iprop(dutyTok ER (barCell (bwd c (ord o.val))) 0 o ∗ barPay (bwd c (ord o.val)) o) ⊢ (sigTok c o : sProp 𝕄) := by
  unfold sigTok; exact .rfl

theorem barPay0 : (barPay c 0 : sProp 𝕄) = iprop(lnd c 0 ∗ lnd c 1 ∗ lnd c 2 ∗ lnd c 3) := rfl
theorem barPay1 : (barPay c 1 : sProp 𝕄) = iprop(lnd c 4 ∗ lnd c 5 ∗ lnd c 6 ∗ lnd c 7) := rfl
theorem barPay2 : (barPay c 2 : sProp 𝕄) = iprop(lnd c 8 ∗ lnd c 9 ∗ lnd c 10 ∗ lnd c 11) := rfl

theorem x8s0 : (x8S c 0 (x8C m c) : sProp 𝕄) = iprop(src m c 0 ∗ src m c 1 ∗ src m c 2 ∗ src m c 3) := x8_split m c 0
theorem x8s1 : (x8S c 1 (x8C m c) : sProp 𝕄) = iprop(src m c 4 ∗ src m c 5 ∗ src m c 6 ∗ src m c 7) := x8_split m c 1
theorem x8s2 : (x8S c 2 (x8C m c) : sProp 𝕄) = iprop(src m c 8 ∗ src m c 9 ∗ src m c 10 ∗ src m c 11) := x8_split m c 2

/-- The buffers' pieces at the end, joined. -/
theorem scr_close :
    iprop((xsP c 0 (xsC m c 2) ∗ xsP c 1 (xsC m c 0)) ∗ (bigSep Finset.univ fun i : Fin 12 => src m c i)
        ∗ (xfS c 0 (xfC m c) ∗ (xfP c 1 0 (xfC m c) ∗ xfP c 1 1 (xfC m c) ∗ xfP c 1 2 (xfC m c) ∗ xfP c 1 3 (xfC m c))
          ∗ (xfP c 2 0 (xfC m c) ∗ xfP c 2 1 (xfC m c) ∗ xfP c 2 2 (xfC m c) ∗ xfP c 2 3 (xfC m c))
          ∗ (xfP c 3 0 (xfC m c) ∗ xfP c 3 1 (xfC m c) ∗ xfP c 3 2 (xfC m c) ∗ xfP c 3 3 (xfC m c)))
        ∗ (wsP c 0 (wsC m c 3) ∗ wsP c 1 (wsC m c 2)) ∗ (w8P c 0 (w8C m c) ∗ w8P c 1 (w8C m c) ∗ w8P c 2 (w8C m c) ∗ w8P c 3 (w8C m c))
        ∗ (ovP c 0 (OUT m c) ∗ ovP c 1 (OUT m c) ∗ ovP c 2 (OUT m c) ∗ ovP c 3 (OUT m c)))
      ⊢ scr c := by
  rw [← xf_chunks, ← xf_chunks, ← xf_chunks, ← xf_slots, ← w8_slots, ← ov_rows, sep12]
  unfold scr
  iintro ⟨Hx, ⟨Hs0, Hs1, Hs2, Hs3, Hs4, Hs5, Hs6, Hs7, Hs8, Hs9, Hs10, Hs11⟩, Hf, Hw, Hg, Ho⟩
  isplitl [Hx]; · iapply (xs_join c); iexact Hx
  isplitl [Hs0 Hs1 Hs2 Hs3 Hs4 Hs5 Hs6 Hs7 Hs8 Hs9 Hs10 Hs11]
  · iexists (x8C m c)
    ihave H0 := (Entails.of_eq (x8s0 m c).symm) $$ [Hs0 Hs1 Hs2 Hs3]; · iframe Hs0 Hs1 Hs2 Hs3
    ihave H1 := (Entails.of_eq (x8s1 m c).symm) $$ [Hs4 Hs5 Hs6 Hs7]; · iframe Hs4 Hs5 Hs6 Hs7
    ihave H2 := (Entails.of_eq (x8s2 m c).symm) $$ [Hs8 Hs9 Hs10 Hs11]; · iframe Hs8 Hs9 Hs10 Hs11
    iapply (Entails.of_eq (x8_slots c (x8C m c)).symm); iframe H0 H1 H2
  isplitl [Hf]; · iexists (xfC m c); iexact Hf
  isplitl [Hw]; · iapply (ws_join c); iexact Hw
  isplitl [Hg]; · iexists (w8C m c); iexact Hg
  iexists (OUT m c); iexact Ho

set_option maxHeartbeats 4000000 in
/-- The body at device `c`. -/
theorem body_run {Q : PUnit → sProp 𝕄} :
    iprop(Recs m K ∗ ow c (O₀ c) ∗ toks c ∗ locSems c ∗ (∃ f, arrs m c f) ∗ stgs m c ∗ scr c
        ∗ (ow c (OS c 0) ∗ doneSems c ∗ locSems c ∗ arrs m c (OUT m c) ∗ stgs m c ∗ scr c -∗ Q ⟨⟩))
      ⊢ wpc c (cc0_body (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10) Q := by
  rw [cc0_body_eq_skeleton]; unfold cc0_body_skel
  rw [k0_part25_eq_skeleton]; unfold k0_part25_skel
  simp only [wpc, Prog.lift, Prog.bind_op, Prog.bind_ret, Prog.pure_eq_ret, Prog.bind_assoc]
  unfold toks barDuties locSems arrs stgs scr
  rw [sep12 fun i => sndTok c i, sep12 fun i => rcvTok c i]
  iintro ⟨#HR, HO, ⟨⟨Hd0, Hd1, Hd2⟩, Hbt, ⟨Ht0, Ht1, Ht2, Ht3, Ht4, Ht5, Ht6, Ht7, Ht8, Ht9, Ht10, Ht11⟩, ⟨Hr0, Hr1, Hr2, Hr3, Hr4, Hr5, Hr6, Hr7, Hr8, Hr9, Hr10, Hr11⟩⟩,
    ⟨Hv0, Hv1, Hu0, Hu1, Hz0, Hz1, Hz2, Hz3⟩, ⟨%f4, HA, HB, HC⟩, ⟨Hsa, Hsb⟩, ⟨Hx, He, Hf, Hw, Hg, ⟨%f0, Hov⟩⟩, Hpost⟩
  ihave HA := (Entails.of_eq (a0_rows m c)) $$ HA; icases HA with ⟨Ha0, Ha1, Ha2, Ha3⟩
  ihave HB := (Entails.of_eq (a1_rows m c)) $$ HB; icases HB with ⟨Hb0, Hb1, Hb2, Hb3⟩
  ihave HC := (a4_open c) $$ [HC]; · iexists f4; iexact HC
  icases HC with ⟨Hq0, Hq1, Hq2, Hq3⟩
  ihave Hx := (xs_open c) $$ Hx; icases Hx with ⟨Hx0, Hx1⟩
  ihave He := (x8_open c) $$ He; icases He with ⟨He0, He1, He2⟩
  ihave Hf := (xf_open c) $$ Hf; icases Hf with ⟨Hf, Hpy0, Hpy1, Hpy2⟩
  ihave Hw := (ws_open c) $$ Hw; icases Hw with ⟨Hw0, Hw1⟩
  ihave Hg := (w8_open c) $$ Hg; icases Hg with ⟨Hg0, Hg1, Hg2, Hg3⟩
  ihave Hsg0 := (sigTok_intro c 0) $$ [Hd0 Hpy0]; · iframe Hd0 Hpy0
  ihave Hsg1 := (sigTok_intro c 1) $$ [Hd1 Hpy1]; · iframe Hd1 Hpy1
  ihave Hsg2 := (sigTok_intro c 2) $$ [Hd2 Hpy2]; · iframe Hd2 Hpy2
  rw [wp_bind]
  iapply (part1 m K c)
  iframe HR Ha1 Ha3 Hx0 Hx1 Hv0 Hv1 HO Hsg1
  iintro ⟨HF0, HF1, HO⟩ %v2
  dsimp only
  rw [wp_bind]
  iapply (part2 m K c)
  iframe HR HO Hsg2 Hsg0 Hbt HF0 He0
  iintro ⟨HO, Hbv, Hbp0, Hbp1, Hbp2, Hx0, Ha1, Hv0, He0⟩ %v44
  ihave Hbp0 := (Entails.of_eq (barPay0 c)) $$ Hbp0; icases Hbp0 with ⟨Hl0, Hl1, Hl2, Hl3⟩
  ihave Hbp1 := (Entails.of_eq (barPay1 c)) $$ Hbp1; icases Hbp1 with ⟨Hl4, Hl5, Hl6, Hl7⟩
  ihave Hbp2 := (Entails.of_eq (barPay2 c)) $$ Hbp2; icases Hbp2 with ⟨Hl8, Hl9, Hl10, Hl11⟩
  ihave He0 := (Entails.of_eq (x8s0 m c)) $$ He0; icases He0 with ⟨Hs0, Hs1, Hs2, Hs3⟩
  rw [wp_bind]
  iapply (part3 m K c)
  iframe HR HO Hs0 Hl0 Ht0 Hs1 Hl1 Ht1 Hs2 Hl2 Ht2
  iintro ⟨HO, Hn0, Hn1, Hn2⟩ %vv
  obtain ⟨v56, v68, v80⟩ := vv
  dsimp only
  rw [wp_bind]
  iapply (part4 m K c)
  iframe HR HO Hs3 Hl3 Ht3 Ha2 Hx0 Hv0 HF1 He1
  iintro ⟨HO, Hn3, HF0, Hx1, Ha3, Hv1, He1⟩ %c3
  ihave He1 := (Entails.of_eq (x8s1 m c)) $$ He1; icases He1 with ⟨Hs4, Hs5, Hs6, Hs7⟩
  rw [wp_bind]
  iapply (part5 m K c)
  iframe HR HO Hs4 Hl4 Ht4 Hs5 Hl5 Ht5
  iintro ⟨HO, Hn4, Hn5⟩ %vv
  obtain ⟨v111, v123, v135, v136, c0⟩ := vv
  dsimp only
  rw [wp_bind]
  iapply (part6 m K c)
  iframe HR HO Hs6 Hl6 Ht6 Hs7 Hl7 Ht7 Ha0 Hx1 Hv1
  iintro ⟨HO, Hn6, Hn7, HF1⟩ %v147
  rw [wp_bind]
  iapply (part7 m K c)
  iframe HR HO HF0 He2 Hl8 Ht8
  iintro ⟨HO, Hn8, Hx0, Ha2, Hv0, Hs9, Hs10, Hs11⟩ %vv
  obtain ⟨v178, v190⟩ := vv
  dsimp only
  rw [wp_bind]
  iapply (part8 m K c)
  iframe HR HO Hs9 Hl9 Ht9 Hs10 Hl10 Ht10 Hs11 Hl11 Ht11
  iintro ⟨HO, Hn9, Hn10, Hn11⟩ %vv
  obtain ⟨v202, v214⟩ := vv
  dsimp only
  rw [wp_bind]
  iapply (part9 m K c)
  iframe HR HO Hb0 Hw0 Hu0 HF1 Hf
  iintro ⟨HO, HG0, Hx1, Ha0, Hv1, Hf⟩
  rw [wp_bind]
  iapply (part10 m K c)
  iframe HR HO Hb1 Hw1 Hu1 HG0 Hg0 Hb3 Hf Hov
  iintro ⟨HO, HG1, HG0, Hb0, Hg0, Hf, Hov⟩
  dsimp only
  rw [wp_bind]
  iapply (part11 m K c)
  iframe HR HO Hov HG1 Hg1 Hb2 HG0
  iintro ⟨HO, Hov, Hb1, Hg1, HG1, Hw0, Hb3, Hu0⟩
  rw [wp_bind]
  iapply (part12 m K c)
  iframe HR HO Hw0 Hg3 HG1 Hg2 Hsa Hsb Hr0
  iintro ⟨HO, Hw0, Hg3, Hw1, Hb2, Hu1, Hg2, Hsa, Hsb, Hk0, Hd0⟩
  ihave Hov := (Entails.of_eq (ov_rows c (O0 m c))) $$ Hov; icases Hov with ⟨Ho0, Ho1, Ho2, Ho3⟩
  rw [wp_bind]
  iapply (part13 m K c)
  iframe HR HO Ho0 Hd0 Hg1 Hr4 Hg3
  iintro ⟨HO, Ho0, Hd0, Hg1, Hk4, Hd4, Hg3⟩
  rw [wp_bind]
  iapply (part14 m K c)
  iframe HR HO Ho0 Hr8 Hg2 Hq0 Hz0
  iintro ⟨HO, Hk8, Hd8, Hg2, HH0⟩
  rw [wp_bind]
  iapply (part15 m K c)
  iframe HR HO Hr1 Ho1 Hg1 Hr5
  iintro ⟨HO, Hk1, Hd1, Ho1, Hg1, Hk5, Hd5⟩
  rw [wp_bind]
  iapply (part16 m K c)
  iframe HR HO Hd5 Hg3 Ho1 Hr9 Hg2
  iintro ⟨HO, Hd5, Hg3, Ho1, Hk9, Hd9, Hg2⟩
  rw [wp_bind]
  iapply (part17 m K c)
  iframe HR HO Ho1 Hq1 Hz1 Hr2 Ho2 Hg1
  iintro ⟨HO, HH1, Hk2, Hd2, Ho2, Hg1⟩
  rw [wp_bind]
  iapply (part18 m K c)
  iframe HR HO Hr6 Ho2 Hg3 Hr10
  iintro ⟨HO, Hk6, Hd6, Ho2, Hg3, Hk10, Hd10⟩
  rw [wp_bind]
  iapply (part19 m K c)
  iframe HR HO Hd10 Hg2 Ho2 Hq2 Hz2 Hr3 Ho3
  iintro ⟨HO, Hd10, Hg2, HH2, Hk3, Hd3, Ho3⟩
  dsimp only
  rw [wp_bind]
  iapply (part20 m K c)
  iframe HR HO Hg1 Ho3 Hr7 Hg3
  iintro ⟨HO, Hg1, Ho3, Hk7, Hd7, Hg3⟩ %c1
  rw [wp_bind]
  iapply (part21 m K c)
  iframe HR HO Hr11 Ho3 Hg2 Hq3 Hz3
  iintro ⟨HO, Hk11, Hd11, Hg2, HH3⟩
  rw [wp_bind]
  iapply (part22 m K c)
  iframe HR HO HH0 HH1 HH2 HH3 Hn0
  iintro ⟨HO, Hq0, Ho0, Hz0, Hq1, Ho1, Hz1, Hq2, Ho2, Hz2, Hq3, Ho3, Hz3, Hp0, Hs0⟩
  rw [wp_bind]
  iapply (part23 m K c)
  iframe HR HO Hn1 Hn2 Hn3 Hn4
  iintro ⟨HO, Hp1, Hs1, Hp2, Hs2, Hp3, Hs3, Hp4, Hs4⟩
  rw [wp_bind]
  iapply (part24 m K c)
  iframe HR HO Hn5 Hn6 Hn7 Hn8
  iintro ⟨HO, Hp5, Hs5, Hp6, Hs6, Hp7, Hs7, Hp8, Hs8⟩
  iapply (sndW m c 9 rfl rfl) $$ [HO Hn9]; · iframe HR HO Hn9
  iintro ⟨HO, Hp9, Hs9⟩
  iapply (sndW m c 10 rfl rfl) $$ [HO Hn10]; · iframe HR HO Hn10
  iintro ⟨HO, Hp10, Hs10⟩
  iapply (sndW m c 11 rfl rfl) $$ [HO Hn11]; · iframe HR HO Hn11
  iintro ⟨HO, Hp11, Hs11⟩
  iapply (ret c)
  iapply Hpost
  unfold doneSems
  rw [sep12 fun i => semVal (sendCell c i) 0, sep12 fun i => semVal (recvCell c i) 0]
  iframe HO Hbv Hp0 Hp1 Hp2 Hp3 Hp4 Hp5 Hp6 Hp7 Hp8 Hp9 Hp10 Hp11 Hk0 Hk1 Hk2 Hk3 Hk4 Hk5 Hk6 Hk7 Hk8 Hk9 Hk10 Hk11 Hv0 Hv1 Hu0 Hu1 Hz0 Hz1 Hz2 Hz3 Hsa Hsb
  isplitl [Ha0 Ha1 Ha2 Ha3 Hb0 Hb1 Hb2 Hb3 Hq0 Hq1 Hq2 Hq3]
  · rw [a0_rows, a1_rows, a4_rows]
    iframe Ha0 Ha1 Ha2 Ha3 Hb0 Hb1 Hb2 Hb3 Hq0 Hq1 Hq2 Hq3
  have hsc := scr_close m c
  unfold scr at hsc
  iapply hsc
  rw [sep12 fun i => src m c i]
  iframe Hx0 Hx1 Hs0 Hs1 Hs2 Hs3 Hs4 Hs5 Hs6 Hs7 Hs8 Hs9 Hs10 Hs11 Hf Hd0 Hd1 Hd2 Hd3 Hd4 Hd5 Hd6 Hd7 Hd8 Hd9 Hd10 Hd11 Hw0 Hw1 Hg0 Hg1 Hg2 Hg3 Ho0 Ho1 Ho2 Ho3

end Cert.KProof

end
-- ==== Proof.Deal.lean ====
/-
# The protocol's launch

From every device's semaphores at zero and the protocol's ghost state at launch: the invariants of all cells, and for each
device the places of its own cells and the tokens of the duties it pays — its own send cells' and, around the ring, its
peers' barrier and receive cells'.
-/
module

public import proofs.«01_k».proof.Proof.Body
public import proofs.«01_k».proof.Proof.Gen.KernelIdeal.Launch
public import Idealize.ShloMosaic.Lib.Pipeline.Launch
public import Idealize.ShloMosaic.Lib.Pipeline.Kit

@[expose] public section

noncomputable section

namespace Cert.KProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families over the cells of a device -/

theorem erase_none : (Finset.univ : Finset CK).erase none = Finset.univ.map Function.Embedding.some := by
  ext x; cases x <;> simp

/-- A family over a device's transfer cells, send cells then receive cells. -/
theorem bigSep_xfer (Φ : Bool × Fin 12 → sProp 𝕄) :
    bigSep Finset.univ Φ = iprop((bigSep Finset.univ fun i => Φ (false, i)) ∗ (bigSep Finset.univ fun i => Φ (true, i))) := by
  rw [bigSep_univ_prod, bigSep_univ_eq_bigSepL [false, true] (by decide) (by decide), bigSepL_cons_cons, bigSepL_singleton]; rfl

/-- A family over all cells of a device. -/
theorem bigSep_CK (Φ : CK → sProp 𝕄) :
    bigSep Finset.univ Φ
      = iprop(Φ none ∗ (bigSep Finset.univ fun i => Φ (some (false, i))) ∗ (bigSep Finset.univ fun i => Φ (some (true, i)))) := by
  rw [bigSep_univ_at Φ none, erase_none, bigSep_map, bigSep_xfer]; rfl

theorem bigSep_duty (Φ : Duty → sProp 𝕄) : bigSep Finset.univ Φ = iprop(Φ 0 ∗ Φ 1 ∗ Φ 2) :=
  bigSep_univ_eq_bigSepL [0, 1, 2] (by decide) (by decide) Φ

/-! ## The launch element -/

theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  subst h1 h2; rfl

/-- All cells of the protocol. -/
def allCells : Finset (GSem nD τ sig) := Finset.univ.map ⟨kcell, kcell_injective⟩

/-- A token of each duty index at each cell. -/
abbrev tokAt (x : (Dev nD × CK) × Duty) : GSem nD τ sig × ℕ × Duty := (kcell x.1, 0, x.2)
theorem tokAt_injective : Function.Injective tokAt := by
  rintro ⟨a, d⟩ ⟨a', d'⟩ h
  have h1 : a = a' := kcell_injective (congrArg Prod.fst h)
  have h2 : d = d' := congrArg (fun x => x.2.2) h
  subst h1 h2; rfl
def allToks : Finset (GSem nD τ sig × ℕ × Duty) := Finset.univ.map ⟨tokAt, tokAt_injective⟩

def u₀ : UU :=
  (initOf (Pipeline.cells cfgs cellOf_inj) (Pipeline.launchToks cfgs cellOf_inj), (initOf allCells allToks, 1))

/-- The launch element gives the windows' ghost state and the protocol's. -/
theorem u₀_split (a : UR sig nD τ) (b : UB) :
    (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The duty tokens at device `c`'s own cells. -/
def ownToks (c : Dev nD) : sProp 𝕄 :=
  iprop((bigSep Finset.univ fun o : Fin 3 => dutyTok ER (barCell c) 0 o)
    ∗ (bigSep Finset.univ fun i : Fin 12 => dutyTok ER (sendCell c i) 0 0) ∗ (bigSep Finset.univ fun i : Fin 12 => dutyTok ER (recvCell c i) 0 0))

/-- What the launch element gives device `c`. -/
def G (c : Dev nD) : sProp 𝕄 :=
  iprop((bigSep Finset.univ fun k : CK => roundState ER (Rd m) (kcell (c, k)) 0)
    ∗ (bigSep Finset.univ fun k : CK => atPos ER (kcell (c, k)) 0 ∅ 0) ∗ (bigSep Finset.univ fun k : CK => reached ER (kcell (c, k)) 0)
    ∗ ownToks c)

theorem tok_first (g : GSem nD τ sig) :
    (bigSep Finset.univ fun d : Duty => (dutyTok ER g 0 d : sProp 𝕄)) ⊢ dutyTok ER g 0 0 :=
  bigSep_elim (Finset.mem_univ _)

theorem ownToks_intro (c : Dev nD) :
    (bigSep Finset.univ fun k : CK => bigSep Finset.univ fun d : Duty => (dutyTok ER (kcell (c, k)) 0 d : sProp 𝕄)) ⊢ ownToks c := by
  rw [bigSep_CK]; unfold ownToks
  exact BIClass.sep_mono .rfl (BIClass.sep_mono (bigSep_mono fun i _ => tok_first _) (bigSep_mono fun i _ => tok_first _))

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) ⊢ bigSep Finset.univ fun c : Dev nD => ownToks c := by
    unfold allToks; rw [bigSep_map, bigSep_univ_prod, bigSep_univ_prod]
    exact bigSep_mono fun c _ => ownToks_intro c
  iintro HX
  imod (Rounds.fund ER (Rd m) allCells allToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := hT $$ Htok
  unfold G; simp only [bigSep_sep']
  iframe Hst Hat Hr Htok

/-! ## The semaphores at launch -/

/-- The kernel's own semaphores: those of its local copies and its transfer cells'. -/
abbrev osem : Fin 8 ⊕ (Bool × Fin 12) → SemLoc sig
  | .inl j => .dma (⟨2 + j.val, by have := j.isLt; omega⟩ : Fin 34)
  | .inr p => csem (some p)

theorem ownSems_eq (c : Dev nD) :
    (Pipeline.ownSems0 (Ix := Unit) (Name := ℕ) (U := UU) (Lvl := ℕ) (Val := Elt F) (τ := τ) osem c : sProp 𝕄)
      = iprop(locSems c ∗ (bigSep Finset.univ fun i : Fin 12 => semVal (sendCell c i) 0) ∗ (bigSep Finset.univ fun i : Fin 12 => semVal (recvCell c i) 0)) := by
  unfold Pipeline.ownSems0 locSems
  rw [bigSep_univ_sum, bigSep_xfer, bigSep_univ_eq_bigSepL [0, 1, 2, 3, 4, 5, 6, 7] (by decide) (by decide)]
  simp only [bigSepL_cons_cons, bigSepL_singleton]; rfl

theorem barSem_eq (c : Dev nD) : (unscopedSems0 c : sProp 𝕄) = semVal (barCell c) 0 := by
  unfold unscopedSems0; rw [bigSep_eq_bigSepL_of_eq [SemLoc.reg barS] (by decide) (by decide)]; rfl

/-- Device `c`'s invariants, made from its semaphores at zero. -/
theorem alloc_core (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k : CK => reached ER (kcell (c, k)) 0)
          ∗ (bigSep Finset.univ fun k : CK => atPos ER (kcell (c, k)) 0 ∅ 0) ∗ ownToks c ∗ locSems c) := by
  rw [ownSems_eq, barSem_eq]; unfold G
  iintro ⟨⟨Hloc, HS, HV⟩, HB, Hst, Hat, Hr, Htok⟩
  ihave Hv := (Entails.of_eq (bigSep_CK fun k : CK => (semVal (kcell (c, k)) 0 : sProp 𝕄)).symm) $$ [HB HS HV]
  · iframe HB HS HV
  imod (show iprop((bigSep Finset.univ fun k : CK => semVal (kcell (c, k)) 0) ∗ bigSep Finset.univ fun k : CK => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  iframe Hinv Hr Hat Htok Hloc

/-! ## Tokens around the ring -/

/-- From who pays a barrier duty to where: the device and the batch. -/
def barEquiv : Dev nD × Fin 3 ≃ Dev nD × Fin 3 where
  toFun p := (bwd p.1 (ord p.2.val), p.2)
  invFun p := (fwd p.1 (ord p.2.val), p.2)
  left_inv p := by simp only [fwd_bwd]
  right_inv p := by simp only [bwd_fwd]
/-- From who makes a transfer to who takes it. -/
def recvEquiv : Dev nD × Fin 12 ≃ Dev nD × Fin 12 where
  toFun p := (peer p.1 (p.2.val / 4), p.2)
  invFun p := (bwd p.1 (ord (p.2.val / 4)), p.2)
  left_inv p := by simp only [peer, bwd_fwd]
  right_inv p := by simp only [peer, fwd_bwd]

theorem bar_around :
    (bigSep Finset.univ fun c : Dev nD => bigSep Finset.univ fun o : Fin 3 => (dutyTok ER (barCell c) 0 o : sProp 𝕄))
      = bigSep Finset.univ fun c : Dev nD => bigSep Finset.univ fun o : Fin 3 => dutyTok ER (barCell (bwd c (ord o.val))) 0 o := by
  rw [← bigSep_univ_prod (fun p : Dev nD × Fin 3 => (dutyTok ER (barCell p.1) 0 p.2 : sProp 𝕄)),
    ← bigSep_univ_prod (fun p : Dev nD × Fin 3 => (dutyTok ER (barCell (bwd p.1 (ord p.2.val))) 0 p.2 : sProp 𝕄))]
  exact bigSep_univ_equiv barEquiv _
theorem recv_around :
    (bigSep Finset.univ fun c : Dev nD => bigSep Finset.univ fun i : Fin 12 => (dutyTok ER (recvCell c i) 0 0 : sProp 𝕄))
      = bigSep Finset.univ fun c : Dev nD => bigSep Finset.univ fun i : Fin 12 => dutyTok ER (recvCell (peer c (i.val / 4)) i) 0 0 := by
  rw [← bigSep_univ_prod (fun p : Dev nD × Fin 12 => (dutyTok ER (recvCell p.1 p.2) 0 0 : sProp 𝕄)),
    ← bigSep_univ_prod (fun p : Dev nD × Fin 12 => (dutyTok ER (recvCell (peer p.1 (p.2.val / 4)) p.2) 0 0 : sProp 𝕄))]
  exact bigSep_univ_equiv recvEquiv _

/-- The tokens of the duties device `c` pays. -/
def payToks (c : Dev nD) : sProp 𝕄 :=
  iprop((bigSep Finset.univ fun o : Fin 3 => dutyTok ER (barCell (bwd c (ord o.val))) 0 o)
    ∗ (bigSep Finset.univ fun i : Fin 12 => dutyTok ER (sendCell c i) 0 0)
    ∗ (bigSep Finset.univ fun i : Fin 12 => dutyTok ER (recvCell (peer c (i.val / 4)) i) 0 0))

theorem toks_around : (bigSep Finset.univ fun c : Dev nD => (ownToks c : sProp 𝕄)) = bigSep Finset.univ fun c : Dev nD => payToks c := by
  unfold ownToks payToks
  rw [bigSep_sep', bigSep_sep', bigSep_sep', bigSep_sep', bar_around, recv_around]

/-! ## The global step -/

/-- What stays with device `c` alone. -/
def linear (c : Dev nD) : sProp 𝕄 :=
  iprop((bigSep Finset.univ fun k : CK => atPos ER (kcell (c, k)) 0 ∅ 0) ∗ payToks c ∗ locSems c)
/-- What all devices share. -/
def shared (K : Dev nD × CK → ℕ) : sProp 𝕄 :=
  iprop((bigSep Finset.univ fun ck : Dev nD × CK => cellInv ER (Rd m) (K ck) (kcell ck))
    ∗ (bigSep Finset.univ fun ck : Dev nD × CK => reached ER (kcell ck) 0))
instance shared_persistent (K : Dev nD × CK → ℕ) : BI.Persistent (shared m K) := by unfold shared; infer_instance

/-- What the global step gives device `c`. -/
def G' (c : Dev nD) : sProp 𝕄 := iprop((∃ K, shared m K) ∗ linear c)

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem G'_intro (K : Dev nD × CK → ℕ) (c : Dev nD) : iprop(shared m K ∗ linear c) ⊢ G' m c := by
  unfold G'
  iintro ⟨HS, HL⟩
  isplitl [HS]; · iexists K; iexact HS
  iexact HL

theorem regroup :
    (bigSep Finset.univ fun c : Dev nD => iprop((bigSep Finset.univ fun k => iprop(∃ κ : ℕ, cellInv ER (Rd m) κ (kcell (c, k))))
          ∗ (bigSep Finset.univ fun k : CK => reached ER (kcell (c, k)) 0)
          ∗ (bigSep Finset.univ fun k : CK => atPos ER (kcell (c, k)) 0 ∅ 0) ∗ ownToks c ∗ locSems c) : sProp 𝕄)
      ⊢ bigSep Finset.univ (G' m) := by
  rw [bigSep_sep', bigSep_sep', bigSep_sep', bigSep_sep', toks_around, ← bigSep_sep' Finset.univ payToks, ← bigSep_sep',
    ← bigSep_univ_prod (fun ck : Dev nD × CK => iprop(∃ κ : ℕ, cellInv ER (Rd m) κ (kcell ck))),
    ← bigSep_univ_prod (fun ck : Dev nD × CK => (reached ER (kcell ck) 0 : sProp 𝕄))]
  iintro ⟨HI, #HR, HL⟩
  ihave HK := (BI.bigSep_exists_pi Finset.univ (fun (ck : Dev nD × CK) (κ : ℕ) => (cellInv ER (Rd m) κ (kcell ck) : sProp 𝕄))) $$ HI
  icases HK with ⟨%K, #HI⟩
  iapply (bigSep_with (R := shared m K) (Φ := linear) fun c _ => G'_intro m K c)
  isplitr
  · unfold shared; isplitl; · iexact HI
    iexact HR
  · unfold linear; iexact HL

/-- The global step at launch. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc_core m c).trans (bigSep_fupd _ _)).trans (BI.fupd_mono (regroup m))

/-! ## The launch credit -/

theorem kcell_dev {a b : Dev nD} {k k' : CK} (h : kcell (a, k) = kcell (b, k')) : a = b ∧ k = k' := by
  have := kcell_injective h
  exact ⟨congrArg Prod.fst this, congrArg Prod.snd this⟩

/-- No transfer pays a barrier cell. -/
theorem OS_bar (d c : Dev nD) (n : ℕ) : OS d n (barCell c) () = 0 := by
  induction n with
  | zero => rfl
  | succ n ih =>
    rw [OS, Pi.add_apply, Finsupp.add_apply, ih]
    split
    · rw [tallyAt_apply, if_neg fun h => Option.some_ne_none _ (kcell_dev h.1).2.symm]
    · rfl
/-- Transfer `i` of `d` pays the receive cell `i` of its target. -/
theorem OS_recv (d c : Dev nD) (i : Fin 12) (n : ℕ) (hn : n ≤ 12) :
    OS d n (recvCell c i) () = if 12 ≤ n + i.val ∧ d = bwd c (ord (i.val / 4)) then Nc else 0 := by
  have hi := i.isLt
  induction n with
  | zero => rw [if_neg (by omega)]; rfl
  | succ n ih =>
    rw [OS, Pi.add_apply, Finsupp.add_apply, ih (by omega), dif_pos (by omega), tallyAt_apply]
    by_cases h : 11 - n = i.val
    · rw [if_neg (by omega), Nat.zero_add]
      by_cases hd : d = bwd c (ord (i.val / 4))
      · rw [if_pos, if_pos ⟨by omega, hd⟩]
        refine ⟨?_, rfl⟩
        subst hd
        have e : (⟨11 - n, by omega⟩ : Fin 12) = i := Fin.ext h
        rw [e]; simp only [h, peer, fwd_bwd]
      · rw [if_neg, if_neg fun h' => hd h'.2]
        rintro ⟨hg, -⟩
        have := (kcell_dev hg).1
        apply hd; rw [this, h]; simp only [peer, bwd_fwd]
    · rw [if_neg (c := recvCell c i = _ ∧ _), Nat.add_zero]
      · by_cases hd : d = bwd c (ord (i.val / 4))
        · by_cases hk : 12 ≤ n + i.val
          · rw [if_pos ⟨hk, hd⟩, if_pos ⟨by omega, hd⟩]
          · rw [if_neg fun h' => hk h'.1, if_neg fun h' => hk (by omega)]
        · rw [if_neg fun h' => hd h'.2, if_neg fun h' => hd h'.2]
      · rintro ⟨hg, -⟩
        have := (kcell_dev hg).2
        exact h (congrArg (fun k : CK => match k with | some (_, j) => j.val | none => 0) this).symm

theorem bar_tally (d c : Dev nD) (e : ℕ) :
    (tallyAt (barCell (bwd d e)) () 1 : CellTallies nD τ sig Unit) (barCell c) () = if d = fwd c e then 1 else 0 := by
  rw [tallyAt_apply]
  by_cases h : d = fwd c e
  · subst h; rw [bwd_fwd, if_pos ⟨rfl, rfl⟩, if_pos rfl]
  · rw [if_neg h, if_neg fun h' => h (by rw [(kcell_dev h'.1).1, fwd_bwd])]

theorem owed_bar (d c : Dev nD) :
    O₀ d (barCell c) () = (if d = fwd c (ord 0) then 1 else 0) + (if d = fwd c (ord 2) then 1 else 0) + (if d = fwd c (ord 1) then 1 else 0) := by
  unfold O₀ O₁ O₂
  rw [Pi.add_apply, Finsupp.add_apply, Pi.add_apply, Finsupp.add_apply, Pi.add_apply, Finsupp.add_apply, OS_bar, Nat.zero_add,
    bar_tally, bar_tally, bar_tally]
theorem owed_recv (d c : Dev nD) (i : Fin 12) : O₀ d (recvCell c i) () = if d = bwd c (ord (i.val / 4)) then Nc else 0 := by
  have hb (e : ℕ) : (tallyAt (barCell (bwd d e)) () 1 : CellTallies nD τ sig Unit) (recvCell c i) () = 0 := by
    rw [tallyAt_apply, if_neg fun h => Option.some_ne_none _ (kcell_dev h.1).2]
  unfold O₀ O₁ O₂
  rw [Pi.add_apply, Finsupp.add_apply, Pi.add_apply, Finsupp.add_apply, Pi.add_apply, Finsupp.add_apply, hb, hb, hb, OS_recv d c i 12 le_rfl]
  simp only [Nat.le_add_right, true_and, Nat.add_zero]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ _ fun _ => 1, Finset.sum_ite_eq' Finset.univ _ fun _ => 1, Finset.sum_ite_eq' Finset.univ _ fun _ => 1,
    if_pos (Finset.mem_univ _), if_pos (Finset.mem_univ _), if_pos (Finset.mem_univ _)]
theorem launch_recv (c : Dev nD) (i : Fin 12) :
    tallyOn (recvCell c i) (launchCredit (Pipeline.owing O₀) 0 (recvCell c i)) = (tallyAt (recvCell c i) () Nc : CellTallies nD τ sig Unit) := by
  unfold tallyAt; refine congrArg _ (Finsupp.ext fun u => ?_); cases u
  rw [Pipeline.launchCredit_owing, Finsupp.single_eq_same, Finset.sum_congr rfl fun d _ => owed_recv d c i, Finset.sum_ite_eq' Finset.univ _ fun _ => Nc,
    if_pos (Finset.mem_univ _)]

/-- The device's cells among its semaphores. -/
def devSems : Finset (SemLoc sig) := Finset.univ.map ⟨csem, csem_injective⟩

theorem creds (c : Dev nD) :
    (Pipeline.launchCred O₀ c : sProp 𝕄)
      ⊢ iprop(cred (tallyAt (barCell c) () 3) ∗ bigSep Finset.univ fun i : Fin 12 => cred (tallyAt (recvCell c i) () Nc)) := by
  unfold Pipeline.launchCred
  refine (bigSep_subset (Finset.subset_univ devSems)).trans ?_
  unfold devSems
  rw [bigSep_map, bigSep_CK]
  refine BIClass.sep_mono (Entails.of_eq (congrArg cred (launch_bar c))) ?_
  refine BIBase.Entails.trans (Q := bigSep Finset.univ fun i : Fin 12 => cred (tallyOn (recvCell c i) (launchCredit (Pipeline.owing O₀) 0 (recvCell c i)))) ?_
    (Entails.of_eq (bigSep_congr fun i _ => congrArg cred (launch_recv c i)))
  iintro ⟨-, H2⟩
  iexact H2

end Cert.KProof

end
-- ==== Proof.Launch.lean ====
/-
# The whole run

The launch of the kernel on all devices: what the body runs from and ends in as the launch's proof data, the launch's side
conditions, and the run of the program (`run_main`): from any memory at rest every execution ends with each device's
result at `OUT m c`, the arguments as they were and every semaphore at zero.
-/
module

public import proofs.«01_k».proof.Proof.Deal
public import Idealize.ShloMosaic.Lib.Pipeline.CollectiveSegs

@[expose] public section

noncomputable section

namespace Cert.KProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: contents `m`, every counter zero, generator registers `ρ`. -/
def s₀ : MemSt nD τ sig (Elt F) := ⟨m, fun _ => 0, ρ⟩

/-! ## The proof data -/

/-- What the body of device `c` starts from besides its scratch buffers and the staged scales. -/
def start (c : Dev nD) : sProp 𝕄 :=
  iprop((∃ K, Recs m K) ∗ toks c ∗ locSems c ∗ ∃ f, arrs m c f)

def Φ₀ (c : Dev nD) : sProp 𝕄 := iprop(start m c ∗ scr c)
def Φ₁ (c : Dev nD) : sProp 𝕄 := iprop(doneSems c ∗ locSems c ∗ arrs m c (OUT m c) ∗ scr c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => A2 m c
    | ⟨1, _⟩ => A3 m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem fetched0 (t : Fin cfg0.N) : (cfg0.win (0 : Fin 2)).fetch t = true := by rw [fin_N0 t]; rfl
theorem fetched1 (t : Fin cfg0.N) : (cfg0.win (1 : Fin 2)).fetch t = true := by rw [fin_N0 t]; rfl

theorem idx1_eq (x y : (⟨1, ![1]⟩ : Shape).Idx) : x = y := funext fun a => by
  have ha : a = 0 := Subsingleton.elim _ _
  subst ha
  exact Subsingleton.elim (α := Fin 1) _ _

theorem before0 (c : Dev nD) (d) : (dats m ρ 0 c).before (0 : Fin 2) t0_0 d = A2 m c := by
  unfold Dat.before; rw [if_pos (fetched0 _)]
  funext x
  exact congrArg (A2 m c) (idx1_eq _ _)
theorem before1 (c : Dev nD) (d) : (dats m ρ 0 c).before (1 : Fin 2) t0_0 d = A3 m c := by
  unfold Dat.before; rw [if_pos (fetched1 _)]
  funext x
  exact congrArg (A3 m c) (idx1_eq _ _)

theorem owns_stage (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer of `c` at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ m c ∗ (dats m ρ 0 c).owesAt () t0_0.succ ∗ stg c cc0_stg0_0 (A2 m c) ∗ stg c cc0_stg1_0 (A3 m c))

set_option maxRecDepth 16000 in
/-- The body at device `c`, from the launch's data at its one point to the data after it. -/
theorem body_obligation (c : Dev nD) : BodyObligation (dats (F := F) m ρ 0 c) (defs₀ (F := F)) 𝒱₀ () Set.univ := fun t => by
  rw [fin_N0 t]
  rw [bigSep_W0, bigSep_W0]
  simp only [owns_stage]
  show bodyPre m ρ c ⊢ wpc c (cc0_body (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10)
    (fun _ => bodyPost m ρ c)
  unfold bodyPre Φ₀ start Dat.owesAt Pipeline.owesWithin
  simp only [before0, before1]
  rw [show (dats m ρ 0 c).owed t0_0.castSucc = O₀ c from rfl]
  iintro ⟨⟨⟨⟨%K, HR⟩, Ht, Hl, Ha⟩, Hs⟩, ⟨%W, %hW, HO⟩, ⟨%d0, %f0, %e0, H0⟩, ⟨%d1, %f1, %e1, H1⟩⟩
  subst e0 e1
  iapply (body_run m K c)
  iframe HR Ht Hl Ha Hs
  isplitl [HO]; · unfold ow; iexists W; iexact HO
  isplitl [H0 H1]; · unfold stgs; iframe H0 H1
  unfold ow stgs bodyPost Φ₁ Dat.owesAt Pipeline.owesWithin
  rw [show (dats m ρ 0 c).owed t0_0.succ = 0 from rfl]
  iintro ⟨⟨%W', HO⟩, Hd, Hl, Ha, ⟨H0, H1⟩, Hs⟩
  iframe Hd Hl Ha Hs
  isplitl [HO]
  · iexists W'
    isplitr; · ipureintro; exact fun _ _ => Or.inl trivial
    iexact HO
  isplitl [H0]
  · iexists _; isplitr; · (ipureintro; rfl)
    iexact H0
  iexists _; isplitr; · (ipureintro; rfl)
  iexact H1

/-! ## The launch's side conditions -/

theorem ownSemFacts : Pipeline.OwnSemFacts cfg0.spec osem := by decide

theorem share_eq (c : Dev nD) (w : Fin cfg0.W) : (dats m ρ 0 c).share w = fullShare := by unfold Dat.share; split <;> rfl

/-- The places and tokens the launch gave a device, with its credit: what its body takes. -/
theorem toks_of (c : Dev nD) :
    iprop((bigSep Finset.univ fun k : CK => atPos ER (kcell (c, k)) 0 ∅ 0) ∗ payToks c
        ∗ cred (tallyAt (barCell c) () 3) ∗ bigSep Finset.univ fun i : Fin 12 => cred (tallyAt (recvCell c i) () Nc))
      ⊢ (toks c : sProp 𝕄) := by
  unfold payToks toks barDuties barTok sndTok rcvTok
  rw [bigSep_CK, bigSep_sep', bigSep_sep', bigSep_sep', bigSep_duty]
  iintro ⟨⟨HaB, HaS, HaV⟩, ⟨⟨H0, H1, H2⟩, HtS, HtV⟩, Hc, HcV⟩
  iframe H0 H1 H2 HaB HaS HaV HtS HtV Hc HcV

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G' linear shared start
  iintro ⟨⟨Ha, Hb, Hv⟩, Hlev, Hcr, -, ⟨%K, HI, HR⟩, Hat, Htk, Hloc⟩
  ihave Hc := (creds (F := F) c) $$ Hcr
  icases Hc with ⟨H1, HN⟩
  imodintro
  isplitl
  · isplitl [HI HR Hlev]
    · iexists K; unfold Recs; iframe HI HR Hlev
    isplitl [Hat Htk H1 HN]
    · iapply (toks_of (F := F) c); iframe Hat Htk H1 HN
    isplitl [Hloc]; · iexact Hloc
    iexists _; unfold arrs; iframe Ha Hb Hv
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N)
      ⊢ iprop((unscopedSems0 c ∗ arrs m c (OUT m c)) ∗ Pipeline.ownSems0 osem c ∗ Pipeline.scopedRest cfg0.spec c) := by
  rw [show (dats m ρ 0 c).Φ (Fin.last cfg0.N) = Φ₁ m c from rfl, scopedRest0_eq, ownSems_eq, barSem_eq]
  unfold Φ₁ doneSems scr
  iintro ⟨⟨HB, HS, HV⟩, Hl, Ha, Hr⟩
  iframe HB Ha Hl HS HV Hr

theorem waits (c : Dev nD) : (levAts L lv : sProp 𝕄) ⊢ Pipeline.cellsWaits cfgs (dats m ρ) () 0 c :=
  Pipeline.cellsWaits_intro cfgs (dats m ρ) () 0 c fun w s t => by
    have h0 : lvK (cellKind (.dma ((cfg0.win w).sem s))) ≤ 0 := by fin_cases w <;> fin_cases s <;> decide
    rcases t with ⟨_ | _, ht⟩
    · exact mayWait_O₀ c _ h0
    · exact mayWait_OS c _ (h0.trans (Nat.zero_le 1)) 0

/-! ## The run -/

theorem read_at (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  have h := pointsTo_read_all (Ix := Unit) (Name := ℕ) (U := UU) (Lvl := ℕ) (Val := Elt F) ({()} : Finset Unit) (fun _ => ℓ) (fun _ => f) s'
  rw [bigSep_singleton] at h
  refine h.trans ?_
  iintro ⟨%h, H⟩
  isplitr; · ipureintro; exact h () (Finset.mem_singleton_self _)
  iexact H

/-- What a final state holds of device `c`: the arrays in memory, and the semaphores that outlive the call at zero. -/
def QY (c : Dev nD) (s : MemSt nD τ sig (Elt F)) : Prop :=
  (s.mem ((c : Thread nD τ).loc main_arg0) = A0 m c ∧ s.mem ((c : Thread nD τ).loc main_arg1) = A1 m c
      ∧ s.mem ((c : Thread nD τ).loc main_v1) = OUT m c)
    ∧ ∀ sm : SemLoc sig, sm.isScoped .tc = false → s.sem ((c.tc : Thread nD τ), sm) = 0

theorem read_all (c : Dev nD) (s' : Phys nD τ sig (Elt F)) :
    iprop((unscopedSems0 c ∗ arrs m c (OUT m c)) ∗ emp ∗ SI s') ⊢ (|={Set.univ}=> iprop(⌜QY m c s'.mem⌝ ∗ SI s') : sProp 𝕄) := by
  unfold arrs QY
  iintro ⟨⟨Hu, Ha, Hb, Hv⟩, -, HSI⟩
  ihave H := (read_at _ _ s') $$ [Ha HSI]; · iframe Ha HSI
  icases H with ⟨%ha, HSI⟩
  ihave H := (read_at _ _ s') $$ [Hb HSI]; · iframe Hb HSI
  icases H with ⟨%hb, HSI⟩
  ihave H := (read_at _ _ s') $$ [Hv HSI]; · iframe Hv HSI
  icases H with ⟨%hv, HSI⟩
  imod (Pipeline.unscopedSems0_read (X := unscopedSems0 c) (c := c) fupd_intro s') $$ [Hu HSI] with ⟨%hs, HSI⟩
  · isplitl [Hu] <;> iassumption
  imodintro
  isplitr; · ipureintro; exact ⟨⟨ha, hb, hv⟩, hs⟩
  iexact HSI

/-- A final state: on each device the arguments as launched and the result at `OUT m c`. -/
def QC (r : PUnit × MemSt nD τ sig (Elt F)) : Prop :=
  ∀ c : Dev nD, r.2.mem ((c : Thread nD τ).loc main_arg0) = A0 m c ∧ r.2.mem ((c : Thread nD τ).loc main_arg1) = A1 m c
    ∧ r.2.mem ((c : Thread nD τ).loc main_arg2) = A2 m c ∧ r.2.mem ((c : Thread nD τ).loc main_arg3) = A3 m c
    ∧ r.2.mem ((c : Thread nD τ).loc main_v1) = OUT m c

set_option maxRecDepth 8000 in
/-- Every execution of the program on the four devices, from any contents, ends with the arguments as they were, each device's result at
    `OUT m c` and every semaphore at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (u₀_split _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(unscopedSems0 c ∗ arrs m c (OUT m c))) (Z := fun _ => iprop(emp))
    (hX := start_intro m ρ) (hin := phi0_intro m ρ) (hout := phi1_exit m ρ)
    (QY := QY m) (hY := read_all m)
    (hQ := fun _ h hs => ⟨fun c =>
        ⟨(h c).2.2.1.1, (h c).2.2.1.2.1, ((h c).1 (0 : Fin 2)).trans ((dats (F := F) m ρ 0 c).arrAt_in (0 : Fin 2) rfl _),
          ((h c).1 (1 : Fin 2)).trans ((dats (F := F) m ρ 0 c).arrAt_in (1 : Fin 2) rfl _), (h c).2.2.1.2.2⟩,
      sem_eq_zero hs fun c => (h c).2.2.2⟩)

end Cert.KProof

end
-- ==== Proof.Algebra.lean ====
/-
# The result as one matrix product

Over the extended reals a change of format changes nothing, so a device's result is the sum of four partial products,
scaled and cut at zero. When the devices hold the column blocks of one matrix and all hold the same weights, the four
partial products are the four quarters of the contraction, taken in an order that depends on the device, and the sum is
the whole contraction (`OUT_eq`).
-/
module

public import proofs.«01_k».proof.Proof.Contents
public import proofs.«01_k».proof.Proof.Gen.ReferenceIdeal.Run
public import Idealize.ShloMosaic.Lib.MatmulPlain
public import Idealize.ShloMosaic.Lib.StackMember
public import Idealize.ShloMosaic.Lib.Layout

@[expose] public section

noncomputable section

namespace Cert.KProof

open Cert.KernelIdeal Cert.KernelIdeal.Gen
open Idealize.ShloMosaic Idealize.ShloMosaic.TcCoe Idealize.ShloMosaic.ValueIdx
open scoped BigOperators

/-! ## The steps at an index -/

/-- The first product at an index. -/
theorem dot0_apply (x : FVec Ideal S1024x1024 .fp8e4m3) (w : FVec Ideal S1024x2048 .fp8e4m3) (r : Fin 1024) (n : Fin 2048) :
    matmul dot_S1024x1024_S1024x2048_S1024x2048_1_0_0_1_n_n none x w (constant (F := Ideal) S1024x2048 .f32 0x00000000#32) (ix2 r n)
      = ∑ k : Fin 1024, x (ix2 r k) * w (ix2 k n) := by
  have h := Ideal.matmul_plain_apply (M := 1024) (K := 1024) (N := 2048) none x w (constant (F := Ideal) S1024x2048 .f32 0x00000000#32) r n
  refine Eq.trans h ?_
  have z : (constant (F := Ideal) S1024x2048 .f32 0x00000000#32) (ix2 r n) = 0 := Ideal.ofBits_zero_f32
  rw [z, zero_add]

/-- A row chunk of a later product at an index. -/
theorem dotC_apply (x : FVec Ideal S256x1024 .fp8e4m3) (w : FVec Ideal S1024x2048 .fp8e4m3) (r : Fin 256) (n : Fin 2048) :
    dotC x w (ix2 r n) = ∑ k : Fin 1024, x (ix2 r k) * w (ix2 k n) := by
  have h := Ideal.matmul_plain_apply (M := 256) (K := 1024) (N := 2048) none x w (constant (F := Ideal) S256x2048 .f32 0x00000000#32) r n
  refine Eq.trans h ?_
  have z : (constant (F := Ideal) S256x2048 .f32 0x00000000#32) (ix2 r n) = 0 := Ideal.ofBits_zero_f32
  rw [z, zero_add]

/-- Row `r` of a block is row `r % 256` of its row chunk `r / 256`. -/
theorem ch_row {b : ℕ} {α : Type} (M : (⟨2, ![1024, b]⟩ : Shape).Idx → α) (r : Fin 1024) (n : Fin b) :
    ch (r.val / 256) M (ix2 ⟨r.val % 256, Nat.mod_lt _ (by decide)⟩ n) = M (ix2 r n) := by
  have hr := r.isLt
  unfold ch rowsOf
  refine congrArg M (congrArg (fun a : Fin 1024 => ix2 a n) (Fin.ext ?_))
  show 256 * (r.val / 256 % 4) + r.val % 256 = r.val
  omega

/-- One product added to an accumulator chunk by chunk, at an index. -/
theorem glue_add_apply (O : FVec Ideal S1024x2048 .f32) (x : FVec Ideal S1024x1024 .fp8e4m3) (w : FVec Ideal S1024x2048 .fp8e4m3)
    (r : Fin 1024) (n : Fin 2048) :
    glue (fun j => addStep (ch j O) (ch j x) w) (ix2 r n) = (O (ix2 r n) + ∑ k : Fin 1024, x (ix2 r k) * w (ix2 k n) : EReal) := by
  show (ch (r.val / 256) O (ix2 ⟨r.val % 256, Nat.mod_lt _ (by decide)⟩ n)
      + dotC (ch (r.val / 256) x) w (ix2 ⟨r.val % 256, Nat.mod_lt _ (by decide)⟩ n) : EReal) = _
  rw [ch_row, dotC_apply]
  refine congrArg (O (ix2 r n) + ·) (Finset.sum_congr rfl fun k _ => ?_)
  rw [ch_row]

/-- A number scaled by `s` and cut at zero. -/
def cut (s a : Ideal .f32) : Ideal .f32 := Scalar.maximumf (Scalar.mulf a s) (Scalar.ofBits .f32 0x00000000#32)

/-- The last step chunk by chunk, at an index. -/
theorem glue_fin_apply (s : Ideal .f32) (O : FVec Ideal S1024x2048 .f32) (x : FVec Ideal S1024x1024 .fp8e4m3) (w : FVec Ideal S1024x2048 .fp8e4m3)
    (r : Fin 1024) (n : Fin 2048) :
    glue (fun j => finStep s (ch j O) (ch j x) w) (ix2 r n) = cut s (O (ix2 r n) + ∑ k : Fin 1024, x (ix2 r k) * w (ix2 k n) : EReal) := by
  rw [← glue_add_apply]
  rfl

/-! ## A device's result, and the whole product -/

variable (m : (ℓ : Loc nD τ sig) → Buf (Elt Ideal) ℓ)

/-- The product with what came from `d` places before, at an index. -/
def part (c : Dev nD) (d : ℕ) (r : Fin 1024) (n : Fin 2048) : EReal :=
  ∑ k : Fin 1024, (XF m c d (ix2 r k) : EReal) * W8 m c d (ix2 k n)

/-- A device's result at an index: the four partial products in the order they are added, scaled and cut at zero. -/
theorem OUT_apply (c : Dev nD) (r : Fin 1024) (n : Fin 2048) :
    OUT m c (ix2 r n) = cut (scl m c) (part m c 0 r n + part m c 1 r n + part m c 3 r n + part m c 2 r n : EReal) := by
  unfold OUT
  rw [glue_fin_apply]
  unfold O3
  rw [glue_add_apply]
  unfold O1
  rw [glue_add_apply]
  unfold O0
  rw [dot0_apply]
  rfl

/-- The `q`-th quarter of a row of `X` times a column of `W`. -/
def quarter (X : (⟨2, ![4096, 4096]⟩ : Shape).Idx → EReal) (W : (⟨2, ![4096, 2048]⟩ : Shape).Idx → EReal) (R : Fin 4096) (n : Fin 2048)
    (q : Fin 4) : EReal :=
  ∑ k : Fin 1024, X (ix2 R ⟨1024 * q.val + k.val, by omega⟩) * W (ix2 ⟨1024 * q.val + k.val, by omega⟩ n)

/-- The whole contraction is the sum of its quarters. -/
theorem sum_quarters (X : (⟨2, ![4096, 4096]⟩ : Shape).Idx → EReal) (W : (⟨2, ![4096, 2048]⟩ : Shape).Idx → EReal) (R : Fin 4096)
    (n : Fin 2048) : ∑ K : Fin 4096, X (ix2 R K) * W (ix2 K n) = ∑ q : Fin 4, quarter X W R n q := by
  unfold quarter
  rw [← Fintype.sum_prod_type' (f := fun (q : Fin 4) (k : Fin 1024) =>
    X (ix2 R ⟨1024 * q.val + k.val, by omega⟩) * W (ix2 ⟨1024 * q.val + k.val, by omega⟩ n))]
  refine (Equiv.sum_comp (finProdFinEquiv (m := 4) (n := 1024)) (fun K : Fin 4096 => X (ix2 R K) * W (ix2 K n))).symm.trans ?_
  refine Finset.sum_congr rfl fun p _ => ?_
  have e : (finProdFinEquiv p : Fin 4096) = ⟨1024 * p.1.val + p.2.val, by omega⟩ := Fin.ext (Nat.add_comm _ _)
  exact congrArg (fun K : Fin 4096 => X (ix2 R K) * W (ix2 K n)) e

/-- The quarters in the order device `c` adds them. -/
theorem sum_order (f : Fin 4 → EReal) (c : Dev nD) :
    f (bwd c 0) + f (bwd c 1) + f (bwd c 3) + f (bwd c 2) = ∑ q : Fin 4, f q := by
  have hb : Function.Bijective (fun d : Fin 4 => (bwd c d.val : Fin 4)) := by revert c; decide
  rw [← hb.sum_comp f, Fin.sum_univ_four]
  exact add_right_comm _ _ _

/-- With the columns of `X` dealt to the devices and the weights `W` on each, the partial product is a quarter of the contraction. -/
theorem part_eq (X : (⟨2, ![4096, 4096]⟩ : Shape).Idx → EReal) (W : (⟨2, ![4096, 2048]⟩ : Shape).Idx → EReal)
    (hX : ∀ c : Dev nD, A0 m c = Layout.block ⟨2, ![4096, 1024]⟩ ⟨2, ![4096, 4096]⟩ 1 4 c X) (hW : ∀ c : Dev nD, A1 m c = W)
    (c : Dev nD) (d : ℕ) (hd : d < 4) (r : Fin 1024) (n : Fin 2048) (R : Fin 4096) (hR : R.val = 1024 * c.val + r.val) :
    part m c d r n = quarter X W R n (bwd c d) := by
  have hc : c.val < 4 := c.isLt
  have hb : (bwd c d).val < 4 := (bwd c d).isLt
  have hr := r.isLt
  unfold part quarter
  refine Finset.sum_congr rfl fun k _ => ?_
  have hk := k.isLt
  have h1 : (XF m c d (ix2 r k) : EReal) = X (ix2 R ⟨1024 * (bwd c d).val + k.val, by omega⟩) := by
    show rowsOf 1024 (((bwd c d).val + d) % 4) (rb_le _) (A0 m (bwd c d)) (ix2 r k) = _
    rw [hX]
    unfold rowsOf
    rw [Layout.block_apply]
    refine congrArg X (funext fun a => ?_)
    match a with
    | ⟨0, _⟩ =>
      refine Fin.ext ?_
      show 1024 * (((c.val + 4 - d % 4) % 4 + d) % 4) + r.val = R.val
      omega
    | ⟨1, _⟩ =>
      refine Fin.ext ?_
      show (bwd c d).val * 1024 + k.val = 1024 * (bwd c d).val + k.val
      omega
  have h2 : (W8 m c d (ix2 k n) : EReal) = W (ix2 ⟨1024 * (bwd c d).val + k.val, by omega⟩ n) := by
    show rowsOf 1024 ((c.val + 4 - d) % 4) (rb_le _) (A1 m c) (ix2 k n) = _
    rw [hW]
    unfold rowsOf
    refine congrArg W (congrArg (fun a : Fin 4096 => ix2 a n) (Fin.ext ?_))
    show 1024 * ((c.val + 4 - d) % 4) + k.val = 1024 * ((c.val + 4 - d % 4) % 4) + k.val
    rw [Nat.mod_eq_of_lt hd]
  rw [h1, h2]

/-- The reference's result as a function of its four arguments. -/
def REF (X : FVec Ideal Cert.ReferenceIdeal.S4096x4096 .f32) (W : FVec Ideal Cert.ReferenceIdeal.S4096x2048 .f32)
    (s t : FVec Ideal Cert.ReferenceIdeal.S1 .f32) : FVec Ideal Cert.ReferenceIdeal.S4096x2048 .f32 :=
  maximumf (mulf (Host.dotGeneral Cert.ReferenceIdeal.dot_S4096x4096_S4096x2048_S4096x2048_1_0_0_1_n_n none X W)
    (broadcastInDim Cert.ReferenceIdeal.S4096x2048 ![0, 1] Cert.ReferenceIdeal.Gen.bcast_S1x1_S4096x2048_0_1
      (broadcastInDim Cert.ReferenceIdeal.S1x1 ![1] Cert.ReferenceIdeal.Gen.bcast_S1_S1x1_1 (mulf s t))))
    (broadcastInDim Cert.ReferenceIdeal.S4096x2048 ![] Cert.ReferenceIdeal.Gen.bcast_S_S4096x2048
      (constant Cert.ReferenceIdeal.S_ .f32 0x00000000#32))

/-- The reference's result at an index. -/
theorem REF_apply (X : FVec Ideal Cert.ReferenceIdeal.S4096x4096 .f32) (W : FVec Ideal Cert.ReferenceIdeal.S4096x2048 .f32)
    (s t : FVec Ideal Cert.ReferenceIdeal.S1 .f32) (R : Fin 4096) (n : Fin 2048) :
    REF X W s t (ix2 R n) = cut (Scalar.mulf (s (ix1 (0 : Fin 1))) (t (ix1 (0 : Fin 1)))) (∑ K : Fin 4096, (X (ix2 R K) : EReal) * W (ix2 K n)) := by
  have h : Host.dotGeneral Cert.ReferenceIdeal.dot_S4096x4096_S4096x2048_S4096x2048_1_0_0_1_n_n none X W (ix2 R n)
      = ∑ K : Fin 4096, (X (ix2 R K) : EReal) * W (ix2 K n) := StackMember.dotGeneral_plain_apply none X W R n
  rw [← h]
  have e : broadcastInDim Cert.ReferenceIdeal.S4096x2048 ![0, 1] Cert.ReferenceIdeal.Gen.bcast_S1x1_S4096x2048_0_1
      (broadcastInDim Cert.ReferenceIdeal.S1x1 ![1] Cert.ReferenceIdeal.Gen.bcast_S1_S1x1_1 (mulf s t)) (ix2 R n)
      = Scalar.mulf (s (ix1 (0 : Fin 1))) (t (ix1 (0 : Fin 1))) := by
    refine congrArg (mulf s t) (a₂ := ix1 (0 : Fin 1)) (funext fun a => ?_)
    match a with
    | ⟨0, _⟩ => exact Subsingleton.elim (α := Fin 1) _ _
  rw [← e]
  rfl

/-- What the algebraic claim says of the results: device `c` holds row block `c` of the reference's result. -/
theorem OUT_eq (X : FVec Ideal Cert.ReferenceIdeal.S4096x4096 .f32) (W : FVec Ideal Cert.ReferenceIdeal.S4096x2048 .f32)
    (s t : FVec Ideal Cert.ReferenceIdeal.S1 .f32)
    (hX : ∀ c : Dev nD, A0 m c = Layout.block ⟨2, ![4096, 1024]⟩ ⟨2, ![4096, 4096]⟩ 1 4 c X) (hW : ∀ c : Dev nD, A1 m c = W)
    (hs : ∀ c : Dev nD, A2 m c = s) (ht : ∀ c : Dev nD, A3 m c = t) (c : Dev nD) :
    OUT m c = Layout.block ⟨2, ![1024, 2048]⟩ ⟨2, ![4096, 2048]⟩ 0 4 c (REF X W s t) := by
  have hc : c.val < 4 := c.isLt
  have key : ∀ (r : Fin 1024) (n : Fin 2048), OUT m c (ix2 r n) = REF X W s t (ix2 (⟨1024 * c.val + r.val, by omega⟩ : Fin 4096) n) := by
    intro r n
    rw [OUT_apply, REF_apply, sum_quarters, ← sum_order _ c]
    have p := fun d hd => part_eq m X W hX hW c d hd r n ⟨1024 * c.val + r.val, by omega⟩ rfl
    rw [p 0 (by decide), p 1 (by decide), p 3 (by decide), p 2 (by decide)]
    unfold scl
    rw [hs, ht]
  funext x
  refine (congrArg (OUT m c) (eq_ix2 x)).trans ((key (x 0) (x 1)).trans ?_)
  rw [Layout.block_apply]
  refine congrArg (REF X W s t) (funext fun a => ?_)
  match a with
  | ⟨0, _⟩ => exact Fin.ext (show 1024 * c.val + (x 0).val = c.val * 1024 + (x 0).val by omega)
  | ⟨1, _⟩ => exact Fin.ext rfl

end Cert.KProof

end
-- ==== Proof.lean ====
/-
# The claims

Each claim of `Cert.Claim` from the run of the kernel on all devices (`Cert.KProof.run_main`), the run of the reference
(`Cert.ReferenceIdeal.Value.run`) and the equality of their results (`Cert.KProof.OUT_eq`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Algebra
public import Idealize.ShloMosaic.Adequacy
public import Idealize.ShloMosaic.Init

@[expose] public section

noncomputable section

namespace Cert.Proof

open Idealize.ShloMosaic Idealize.SL.Sem

section SameText
attribute [local instance] Cert.Kernel.Gen.facts Cert.KernelIdeal.Gen.facts
variable {F : FTy → Type} [FloatOps F]

/-- The two programs' kernel bodies are the same. -/
theorem bodies_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => rfl

/-- And so are their body tables. -/
theorem tables_eq : Cert.Kernel.defs (F := F) = Cert.KernelIdeal.defs (F := F) :=
  congrArg (Pipeline.defs (Cert.KernelIdeal.pcfgs (F := F))) bodies_eq

end SameText

/-- The kernel on machine floats: every execution ends, the arguments as they were and every semaphore at zero. -/
theorem frame_kernel : Cert.quiescent_Kernel (hKernel := Cert.Kernel.Gen.facts) := by
  intro m ρ _
  rw [tables_eq]
  have h := Cert.KProof.run_main (F := Bits) m ρ
  exact (θ_run Cert.KernelIdeal.defs _ _).mono (fun _ h => ⟨fun c => ⟨(h.1 c).1, (h.1 c).2.1, (h.1 c).2.2.1, (h.1 c).2.2.2.1⟩, h.2⟩) h

/-- The same of the kernel on the extended reals. -/
theorem frame_ideal : Cert.quiescent_KernelIdeal (hKernelIdeal := Cert.KernelIdeal.Gen.facts) := by
  intro m ρ _
  exact (θ_run Cert.KernelIdeal.defs _ _).mono (fun _ h => ⟨fun c => ⟨(h.1 c).1, (h.1 c).2.1, (h.1 c).2.2.1, (h.1 c).2.2.2.1⟩, h.2⟩)
    (Cert.KProof.run_main (F := Ideal) m ρ)

/-- The same of the reference, which declares no semaphore. -/
theorem frame_reference : Cert.quiescent_ReferenceIdeal (hReferenceIdeal := Cert.ReferenceIdeal.Gen.facts) := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- On the extended reals, from matching arguments, device `c` of the kernel ends with row block `c` of the reference's result. -/
theorem algebraic : Cert.algebraic_KernelIdeal_ReferenceIdeal (hKernelIdeal := Cert.KernelIdeal.Gen.facts)
    (hReferenceIdeal := Cert.ReferenceIdeal.Gen.facts) := by
  intro m g m' g' _ hin
  refine ⟨_, ?_, (θ_run Cert.ReferenceIdeal.defs _ _).mono (fun r h => h 0) (Cert.ReferenceIdeal.Value.run (F := Ideal) m' g')⟩
  refine (θ_run Cert.KernelIdeal.defs _ _).mono (fun r h c => ⟨(h.1 c).2.2.2.2.trans ?_, (h.1 c).1, (h.1 c).2.1, (h.1 c).2.2.1, (h.1 c).2.2.2.1⟩)
    (Cert.KProof.run_main (F := Ideal) m g)
  exact Cert.KProof.OUT_eq m _ _ _ _ (fun c => (hin c).1) (fun c => (hin c).2.1) (fun c => (hin c).2.2.1) (fun c => (hin c).2.2.2) c

/-- All claims together. -/
theorem claim : Cert.Claim :=
  ⟨Cert.Kernel.Gen.facts, Cert.KernelIdeal.Gen.facts, Cert.ReferenceIdeal.Gen.facts, frame_kernel, frame_ideal, frame_reference, trivial, algebraic⟩

end Cert.Proof

end
